-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x32x64 : Shape := ⟨4, ![2, 128, 32, 64]⟩
abbrev S256x512 : Shape := ⟨2, ![256, 512]⟩
abbrev S_ : Shape := ⟨0, ![]⟩
abbrev S2x128x4x64 : Shape := ⟨4, ![2, 128, 4, 64]⟩
abbrev S4x64x512 : Shape := ⟨3, ![4, 64, 512]⟩
abbrev S3x4x64x512 : Shape := ⟨4, ![3, 4, 64, 512]⟩
abbrev S3x4 : Shape := ⟨2, ![3, 4]⟩
abbrev S256x256 : Shape := ⟨2, ![256, 256]⟩
abbrev S1x128x1x64 : Shape := ⟨4, ![1, 128, 1, 64]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S128x256 : Shape := ⟨2, ![128, 256]⟩
abbrev S64x512 : Shape := ⟨2, ![64, 512]⟩
abbrev S1x64x512 : Shape := ⟨3, ![1, 64, 512]⟩
abbrev S1x1 : Shape := ⟨2, ![1, 1]⟩
abbrev S1x1x64x512 : Shape := ⟨4, ![1, 1, 64, 512]⟩

abbrev nBuf : Space → Nat
  | .hbm => 34
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x32x64, .bf16⟩
  | .hbm, ⟨3, _⟩ => ⟨S2x128x32x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x4x64, .bf16⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S2x128x4x64, .bf16⟩
  | .hbm, ⟨31, _⟩ => ⟨S256x512, .bf16⟩
  | .hbm, ⟨32, _⟩ => ⟨S256x512, .f32⟩
  | .hbm, ⟨33, _⟩ => ⟨S2x128x512, .f32⟩
  | .local _ .vmem, ⟨0, _⟩ => ⟨S256x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S256x512, .f32⟩
  | .local _ .vmem, ⟨6, _⟩ => ⟨S4x64x512, .bf16⟩
  | .local _ .vmem, ⟨7, _⟩ => ⟨S3x4x64x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 2 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_v12 : Ref sig .tc := ⟨.hbm, 26, rfl⟩
abbrev main_c_9 : Ref sig .tc := ⟨.hbm, 27, rfl⟩
abbrev main_c_10 : Ref sig .tc := ⟨.hbm, 28, rfl⟩
abbrev main_c_11 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_109 : BitVec 32 := 1#32
  let v181 : BitVec 32 := Scalar.muli v3 c1_i32_109
  let v182 : BitVec 32 := Scalar.addi c0_i32 v181
  v182.toNat
def k0_dev2 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_111 : BitVec 32 := 1#32
  let v183 : BitVec 32 := Scalar.muli v4 c1_i32_111
  let v184 : BitVec 32 := Scalar.addi c0_i32_112 v183
  v184.toNat
def k0_dev3 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_114 : BitVec 32 := 1#32
  let v185 : BitVec 32 := Scalar.muli v5 c1_i32_114
  let v186 : BitVec 32 := Scalar.addi c0_i32_115 v185
  v186.toNat
def k0_dev4 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_120 : BitVec 32 := 1#32
  let v195 : BitVec 32 := Scalar.xori v2 c1_i32_120
  let c1_i32_128 : BitVec 32 := 1#32
  let v196 : BitVec 32 := Scalar.muli v195 c1_i32_128
  let v197 : BitVec 32 := Scalar.addi c0_i32_129 v196
  v197.toNat
def k0_dev5 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_137 : BitVec 32 := 1#32
  let v210 : BitVec 32 := Scalar.xori v2 c1_i32_137
  let c1_i32_145 : BitVec 32 := 1#32
  let v211 : BitVec 32 := Scalar.muli v210 c1_i32_145
  let v212 : BitVec 32 := Scalar.addi c0_i32_146 v211
  v212.toNat
def k0_dev6 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_154 : BitVec 32 := 4#32
  let v225 : BitVec 32 := Scalar.xori v2 c4_i32_154
  let c1_i32_161 : BitVec 32 := 1#32
  let v226 : BitVec 32 := Scalar.muli v225 c1_i32_161
  let v227 : BitVec 32 := Scalar.addi c0_i32_162 v226
  v227.toNat
def k0_dev7 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_170 : BitVec 32 := 4#32
  let v240 : BitVec 32 := Scalar.xori v2 c4_i32_170
  let c1_i32_178 : BitVec 32 := 1#32
  let v241 : BitVec 32 := Scalar.muli v240 c1_i32_178
  let v242 : BitVec 32 := Scalar.addi c0_i32_179 v241
  v242.toNat
def k0_dev8 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_216 : BitVec 32 := 3#32
  let v273 : BitVec 32 := Scalar.xori v2 c3_i32_216
  let c1_i32_224 : BitVec 32 := 1#32
  let v274 : BitVec 32 := Scalar.muli v273 c1_i32_224
  let v275 : BitVec 32 := Scalar.addi c0_i32_225 v274
  v275.toNat
def k0_dev9 (d0 : Dev nD) : Nat :=
  let c0_i32_271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_262 : BitVec 32 := 3#32
  let v306 : BitVec 32 := Scalar.xori v2 c3_i32_262
  let c1_i32_270 : BitVec 32 := 1#32
  let v307 : BitVec 32 := Scalar.muli v306 c1_i32_270
  let v308 : BitVec 32 := Scalar.addi c0_i32_271 v307
  v308.toNat
def k0_dev10 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_308 : BitVec 32 := 1#32
  let v339 : BitVec 32 := Scalar.xori v2 c1_i32_308
  let c1_i32_316 : BitVec 32 := 1#32
  let v340 : BitVec 32 := Scalar.muli v339 c1_i32_316
  let v341 : BitVec 32 := Scalar.addi c0_i32_317 v340
  v341.toNat
def k0_dev11 (d0 : Dev nD) : Nat :=
  let c0_i32_363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_354 : BitVec 32 := 1#32
  let v372 : BitVec 32 := Scalar.xori v2 c1_i32_354
  let c1_i32_362 : BitVec 32 := 1#32
  let v373 : BitVec 32 := Scalar.muli v372 c1_i32_362
  let v374 : BitVec 32 := Scalar.addi c0_i32_363 v373
  v374.toNat
def k0_dev12 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_400 : BitVec 32 := 4#32
  let v405 : BitVec 32 := Scalar.xori v2 c4_i32_400
  let c1_i32_408 : BitVec 32 := 1#32
  let v406 : BitVec 32 := Scalar.muli v405 c1_i32_408
  let v407 : BitVec 32 := Scalar.addi c0_i32_409 v406
  v407.toNat
def k0_dev13 (d0 : Dev nD) : Nat :=
  let c0_i32_455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_446 : BitVec 32 := 4#32
  let v438 : BitVec 32 := Scalar.xori v2 c4_i32_446
  let c1_i32_454 : BitVec 32 := 1#32
  let v439 : BitVec 32 := Scalar.muli v438 c1_i32_454
  let v440 : BitVec 32 := Scalar.addi c0_i32_455 v439
  v440.toNat
def k0_dev14 (d0 : Dev nD) : Nat :=
  let c0_i32_501 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_492 : BitVec 32 := 3#32
  let v471 : BitVec 32 := Scalar.xori v2 c3_i32_492
  let c1_i32_500 : BitVec 32 := 1#32
  let v472 : BitVec 32 := Scalar.muli v471 c1_i32_500
  let v473 : BitVec 32 := Scalar.addi c0_i32_501 v472
  v473.toNat
def k0_dev15 (d0 : Dev nD) : Nat :=
  let c0_i32_547 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_538 : BitVec 32 := 3#32
  let v504 : BitVec 32 := Scalar.xori v2 c3_i32_538
  let c1_i32_546 : BitVec 32 := 1#32
  let v505 : BitVec 32 := Scalar.muli v504 c1_i32_546
  let v506 : BitVec 32 := Scalar.addi c0_i32_547 v505
  v506.toNat
def k0_dev16 (d0 : Dev nD) : Nat :=
  let c0_i32_675_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_674_r0 : BitVec 32 := 1#32
  let v592_r0 : BitVec 32 := Scalar.muli v3 c1_i32_674_r0
  let v593_r0 : BitVec 32 := Scalar.addi c0_i32_675_r0 v592_r0
  v593_r0.toNat
def k0_dev17 (d0 : Dev nD) : Nat :=
  let c0_i32_678_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_677_r0 : BitVec 32 := 1#32
  let v594_r0 : BitVec 32 := Scalar.muli v4 c1_i32_677_r0
  let v595_r0 : BitVec 32 := Scalar.addi c0_i32_678_r0 v594_r0
  v595_r0.toNat
def k0_dev18 (d0 : Dev nD) : Nat :=
  let c0_i32_681_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_680_r0 : BitVec 32 := 1#32
  let v596_r0 : BitVec 32 := Scalar.muli v5 c1_i32_680_r0
  let v597_r0 : BitVec 32 := Scalar.addi c0_i32_681_r0 v596_r0
  v597_r0.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S2x128x2048 : Shape := ⟨3, ![2, 128, 2048]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x32x128x128 : Shape := ⟨4, ![2, 32, 128, 128]⟩
abbrev S1x1x128x128 : Shape := ⟨4, ![1, 1, 128, 128]⟩
abbrev S2x32x128 : Shape := ⟨3, ![2, 32, 128]⟩
abbrev S2x32x128x1 : Shape := ⟨4, ![2, 32, 128, 1]⟩
abbrev S1x1x128x1 : Shape := ⟨4, ![1, 1, 128, 1]⟩
abbrev S2x32x64x128 : Shape := ⟨4, ![2, 32, 64, 128]⟩

abbrev nBuf : Space → Nat
  | .hbm => 70
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x2048, .bf16⟩
  | .hbm, ⟨2, _⟩ => ⟨S2x128x32x64, .bf16⟩
  | .hbm, ⟨3, _⟩ => ⟨S2x128x32x64, .bf16⟩
  | .hbm, ⟨4, _⟩ => ⟨S2048x512, .bf16⟩
  | .hbm, ⟨5, _⟩ => ⟨S2x128x2048, .f32⟩
  | .hbm, ⟨6, _⟩ => ⟨S2x128x2048, .bf16⟩
  | .hbm, ⟨7, _⟩ => ⟨S2x128x32x64, .bf16⟩
  | .hbm, ⟨8, _⟩ => ⟨S128, .i32⟩
  | .hbm, ⟨9, _⟩ => ⟨S128x1, .i32⟩
  | .hbm, ⟨10, _⟩ => ⟨S128, .i32⟩
  | .hbm, ⟨11, _⟩ => ⟨S1x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i1⟩
  | .hbm, ⟨19, _⟩ => ⟨S_, .i32⟩
  | .hbm, ⟨20, _⟩ => ⟨S1x128, .i32⟩
  | .hbm, ⟨21, _⟩ => ⟨S1x128, .i1⟩
  | .hbm, ⟨22, _⟩ => ⟨S_, .i32⟩
  | .hbm, ⟨23, _⟩ => ⟨S128x1, .i32⟩
  | .hbm, ⟨24, _⟩ => ⟨S128x1, .i1⟩
  | .hbm, ⟨25, _⟩ => ⟨S128x128, .i1⟩
  | .hbm, ⟨26, _⟩ => ⟨S128x128, .i1⟩
  | .hbm, ⟨27, _⟩ => ⟨S128x128, .i1⟩
  | .hbm, ⟨28, _⟩ => ⟨S128x128, .i1⟩
  | .hbm, ⟨29, _⟩ => ⟨S2x32x128x128, .f32⟩
  | .hbm, ⟨30, _⟩ => ⟨S2x32x128x128, .bf16⟩
  | .hbm, ⟨31, _⟩ => ⟨S2x32x128x128, .f32⟩
  | .hbm, ⟨32, _⟩ => ⟨S_, .f32⟩
  | .hbm, ⟨33, _⟩ => ⟨S2x32x128x128, .f32⟩
  | .hbm, ⟨34, _⟩ => ⟨S2x32x128x128, .f32⟩
  | .hbm, ⟨35, _⟩ => ⟨S1x1x128x128, .i1⟩
  | .hbm, ⟨36, _⟩ => ⟨S_, .f32⟩
  | .hbm, ⟨37, _⟩ => ⟨S_, .f32⟩
  | .hbm, ⟨38, _⟩ => ⟨S2x32x128x128, .i1⟩
  | .hbm, ⟨39, _⟩ => ⟨S2x32x128x128, .f32⟩
  | .hbm, ⟨40, _⟩ => ⟨S2x32x128x128, .f32⟩
  | .hbm, ⟨41, _⟩ => ⟨S_, .f32⟩
  | .hbm, ⟨42, _⟩ => ⟨S2x32x128, .f32⟩
  | .hbm, ⟨43, _⟩ => ⟨S2x32x128x1, .f32⟩
  | .hbm, ⟨44, _⟩ => ⟨S2x32x128x128, .f32⟩
  | .hbm, ⟨45, _⟩ => ⟨S2x32x128x128, .f32⟩
  | .hbm, ⟨46, _⟩ => ⟨S2x32x128x128, .f32⟩
  | .hbm, ⟨47, _⟩ => ⟨S_, .i1⟩
  | .hbm, ⟨48, _⟩ => ⟨S128, .i1⟩
  | .hbm, ⟨49, _⟩ => ⟨S1x1x128x1, .i1⟩
  | .hbm, ⟨50, _⟩ => ⟨S_, .f32⟩
  | .hbm, ⟨51, _⟩ => ⟨S2x32x128, .f32⟩
  | .hbm, ⟨52, _⟩ => ⟨S2x32x128x1, .f32⟩
  | .hbm, ⟨53, _⟩ => ⟨S_, .f32⟩
  | .hbm, ⟨54, _⟩ => ⟨S_, .f32⟩
  | .hbm, ⟨55, _⟩ => ⟨S2x32x128x1, .i1⟩
  | .hbm, ⟨56, _⟩ => ⟨S2x32x128x1, .f32⟩
  | .hbm, ⟨57, _⟩ => ⟨S2x32x128x1, .f32⟩
  | .hbm, ⟨58, _⟩ => ⟨S2x32x128x128, .f32⟩
  | .hbm, ⟨59, _⟩ => ⟨S2x32x128x128, .f32⟩
  | .hbm, ⟨60, _⟩ => ⟨S1x1x128x1, .i1⟩
  | .hbm, ⟨61, _⟩ => ⟨S_, .f32⟩
  | .hbm, ⟨62, _⟩ => ⟨S_, .f32⟩
  | .hbm, ⟨63, _⟩ => ⟨S2x32x128x128, .i1⟩
  | .hbm, ⟨64, _⟩ => ⟨S2x32x128x128, .f32⟩
  | .hbm, ⟨65, _⟩ => ⟨S2x32x128x128, .f32⟩
  | .hbm, ⟨66, _⟩ => ⟨S2x32x64x128, .f32⟩
  | .hbm, ⟨67, _⟩ => ⟨S2x128x32x64, .f32⟩
  | .hbm, ⟨68, _⟩ => ⟨S2x128x2048, .f32⟩
  | .hbm, ⟨69, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== Proof.Proto.lean ====
/-
  The all-reduce's protocol, written once for every device.

  Eight devices, three partners each: the device whose number differs by the mask 1, 3 or 4. A device holds four chunks
  of 64 rows; chunks 0 and 1 go round by the masks 1, 3, 4, chunks 2 and 3 by 4, 1, 3. In round r a device rounds its
  running sum of chunk j to bf16, copies it into slot (r, j) of its partner's receive buffer, and adds what lands in its
  own slot (r, j).

    semaphore          waited on by   units come from                       what the units hand over
    barrier            its device     each of the three partners, 1 unit    that partner's receive slots the device will write
    send (r, j)        its device     its own copy (r, j)                   the send slot j, with what was sent
    receive (r, j)     its device     the partner's copy (r, j)             the receive slot (r, j), with the partner's rounded sum
    second barrier     its device     each of the three partners, 1 unit    nothing
-/
module

public import proofs.«01_k».proof.Proof.Gen.KernelIdeal.Skeleton
public import proofs.«01_k».proof.Proof.Gen.KernelIdeal.Launch
public import Idealize.ShloMosaic.Lib.Pipeline.RegionTalk
public import Idealize.ShloMosaic.Lib.Rounds
public import Idealize.ShloMosaic.Lib.Tactic

@[expose] public section

noncomputable section

namespace Cert.KernelIdeal.Butterfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Partners -/

/-- The partner at the k-th mask. -/
def px (k : Fin 3) (c : Dev nD) : Dev nD := ⟨c.val ^^^ (![1, 3, 4] k), by revert k c; decide⟩

/-- A partner's partner at the same mask is the device itself. -/
theorem px_px (k : Fin 3) (c : Dev nD) : px k (px k c) = c := by revert k c; decide

/-- Exchanging with the k-th partner permutes the devices. -/
def pxE (k : Fin 3) : Dev nD ≃ Dev nD := ⟨px k, px k, px_px k, px_px k⟩

/-- A transfer of one device: its round and its chunk. -/
abbrev Tr : Type := Fin 3 × Fin 4

/-- Which mask chunk j uses in round r. -/
def mk (r : ℕ) (j : Fin 4) : Fin 3 := if j.val < 2 then ⟨r % 3, Nat.mod_lt _ (by decide)⟩ else ⟨(r + 2) % 3, Nat.mod_lt _ (by decide)⟩

/-- The partner of transfer (r, j). -/
def pr (c : Dev nD) (r : ℕ) (j : Fin 4) : Dev nD := px (mk r j) c

/-- The partner's partner in a transfer is the device itself. -/
theorem pr_pr (c : Dev nD) (r : ℕ) (j : Fin 4) : pr (pr c r j) r j = c := px_px _ _

/-! ## Slots and semaphores -/

/-- The send buffer and the receive buffer. -/
abbrev sB : Memref sig .tc .vmem S4x64x512 .bf16 := Memref.whole cc0_scratch0

/-- The receive buffer, one slot for each transfer. -/
abbrev rB : Memref sig .tc .vmem S3x4x64x512 .bf16 := Memref.whole cc0_scratch1

/-- The block of chunk j lies inside the send buffer. -/
theorem sOff_inb (j : Fin 4) : ∀ a, (![j.val, 0, 0] : Fin 3 → ℕ) a + S1x64x512.size a ≤ S4x64x512.size a := by revert j; decide

/-- The block of transfer (r, j) lies inside the receive buffer. -/
theorem rOff_inb (r : Fin 3) (j : Fin 4) : ∀ a, (![r.val, j.val, 0, 0] : Fin 4 → ℕ) a + S1x1x64x512.size a ≤ S3x4x64x512.size a := by
  revert r j; decide

/-- The entry (r, j) lies inside an array of semaphores. -/
theorem mOff_inb (r : Fin 3) (j : Fin 4) : ∀ a, (![r.val, j.val] : Fin 2 → ℕ) a + S1x1.size a ≤ S3x4.size a := by revert r j; decide

/-- Chunk j of the send buffer, slot (r, j) of the receive buffer: as boxes. -/
abbrev sRect (j : Fin 4) : Rect S4x64x512 := Rect.unit (s := S4x64x512) ![j.val, 0, 0] S1x64x512.size (sOff_inb j)

/-- The slot of transfer (r, j) in the receive buffer, as a box. -/
abbrev rRect (r : Fin 3) (j : Fin 4) : Rect S3x4x64x512 := Rect.unit (s := S3x4x64x512) ![r.val, j.val, 0, 0] S1x1x64x512.size (rOff_inb r j)

/-- The send slot of chunk j and the receive slot (r, j), as the copies address them. -/
def sView (j : Fin 4) : Memref sig .tc .vmem S64x512 .bf16 := (sB.slice (sRect j) (fun _ => rfl)).squeeze S64x512 squeezes_S1x64x512_S64x512

/-- The receive slot of transfer (r, j), as the copies address it. -/
def rView (r : Fin 3) (j : Fin 4) : Memref sig .tc .vmem S64x512 .bf16 :=
  (rB.slice (rRect r j) (fun _ => rfl)).squeeze S64x512 squeezes_S1x1x64x512_S64x512

/-- The semaphore a copy's sender waits on, and the one its receiver waits on. -/
def sSem (r : Fin 3) (j : Fin 4) : DmaSem sig :=
  ((cc0_scratch2.slice (Rect.unit (s := S3x4) ![r.val, j.val] S1x1.size (mOff_inb r j))).squeeze S_ squeezes_S1x1_S_).sem

/-- The semaphore that the receiver of copy (r, j) waits on. -/
def rSem (r : Fin 3) (j : Fin 4) : DmaSem sig :=
  ((cc0_scratch3.slice (Rect.unit (s := S3x4) ![r.val, j.val] S1x1.size (mOff_inb r j))).squeeze S_ squeezes_S1x1_S_).sem

/-- The barrier's semaphore and the second barrier's. -/
abbrev barS : Sem sig := (SemArray.scalar (sig.barrier 0 rfl) : Sems sig S_).sem

/-- The second barrier's semaphore. -/
abbrev secS : Sem sig := (cc0_scoped0 : Sems sig S_).sem

/-- The send semaphores are numbered from 6, round by round. -/
theorem sSem_val (r : Fin 3) (j : Fin 4) : sSem r j = ⟨6 + 4 * r.val + j.val, by change _ < 30; omega⟩ := by revert r j; decide

/-- The receive semaphores are numbered from 18, round by round. -/
theorem rSem_val (r : Fin 3) (j : Fin 4) : rSem r j = ⟨18 + 4 * r.val + j.val, by change _ < 30; omega⟩ := by revert r j; decide

/-- The barrier's semaphore is number 0. -/
theorem barS_val : (barS : Sem sig) = (0 : Fin 2) := by decide

/-- The second barrier's semaphore is number 1. -/
theorem secS_val : (secS : Sem sig) = (1 : Fin 2) := by decide

/-- What a semaphore is for. -/
inductive Role where
  | bar
  | sec
  | snd (r : Fin 3) (j : Fin 4)
  | rcv (r : Fin 3) (j : Fin 4)
  | other
deriving DecidableEq

/-- The role of a semaphore, by its number. -/
def role : SemLoc sig → Role
  | .reg s => if s.val = 0 then .bar else .sec
  | .dma s =>
    if s.val < 6 then .other
    else if s.val < 18 then .snd ⟨(s.val - 6) / 4 % 3, Nat.mod_lt _ (by decide)⟩ ⟨(s.val - 6) % 4, Nat.mod_lt _ (by decide)⟩
    else .rcv ⟨(s.val - 18) / 4 % 3, Nat.mod_lt _ (by decide)⟩ ⟨(s.val - 18) % 4, Nat.mod_lt _ (by decide)⟩

/-- The barrier's semaphore has the role of the barrier. -/
theorem role_bar : role (.reg barS) = .bar := by decide

/-- The second barrier's semaphore has the role of the second barrier. -/
theorem role_sec : role (.reg secS) = .sec := by decide

/-- A send semaphore has the role of its copy's sender. -/
theorem role_snd (r : Fin 3) (j : Fin 4) : role (.dma (sSem r j)) = .snd r j := by revert r j; decide

/-- A receive semaphore has the role of its copy's receiver. -/
theorem role_rcv (r : Fin 3) (j : Fin 4) : role (.dma (rSem r j)) = .rcv r j := by revert r j; decide

/-- Device c's barrier counter. -/
abbrev barCell (c : Dev nD) : GSem nD τ sig := ((c : Thread nD τ), .reg barS)

/-- Device c's counter of the second barrier. -/
abbrev secCell (c : Dev nD) : GSem nD τ sig := ((c : Thread nD τ), .reg secS)

/-- Device c's send counter of transfer (r, j). -/
abbrev sendCell (c : Dev nD) (r : Fin 3) (j : Fin 4) : GSem nD τ sig := ((c : Thread nD τ), .dma (sSem r j))

/-- Device c's receive counter of transfer (r, j). -/
abbrev recvCell (c : Dev nD) (r : Fin 3) (j : Fin 4) : GSem nD τ sig := ((c : Thread nD τ), .dma (rSem r j))

/-- The units of one copy. -/
abbrev N : ℕ := (rView 0 0).view.dmaCredit

/-- A copy moves something. -/
theorem N_pos : 0 < N := View.dmaCredit_pos _ (by decide)

/-! ## Values -/

/-- Chunk j lies inside a device's product. -/
theorem chunk_fits (j : Fin 4) : S256x512.Slices ![64 * j.val, 0] S64x512 := by revert j; decide

/-- Rows 64j to 64j + 63 of a device's product. -/
def chunk (p : FVec F S256x512 .f32) (j : Fin 4) : FVec F S64x512 .f32 := extractStridedSlice S64x512 ![64 * j.val, 0] p (chunk_fits j)

/-- A running sum as it is sent: rounded to bf16. -/
def rnd (a : FVec F S64x512 .f32) : FVec F S64x512 .bf16 := truncf .bf16 a bitsLt_bf16_f32

/-- A running sum with what a receive slot holds added. -/
def plus (a : FVec F S64x512 .f32) (v : Vec F S1x1x64x512 .bf16) : FVec F S64x512 .f32 :=
  addf a (extf .f32 (shapeCast S64x512 v shapeCasts_S1x1x64x512_S64x512) bitsLt_bf16_f32)

/-- A plane may be read as a block with two unit dimensions in front. -/
theorem unsq : S64x512.ShapeCasts S1x1x64x512 := by decide

/-- Device c's running sum of chunk j after r rounds, every device starting from its own product. -/
def acc (P : Dev nD → FVec F S256x512 .f32) : ℕ → Dev nD → Fin 4 → FVec F S64x512 .f32
  | 0, c, j => chunk (P c) j
  | r + 1, c, j => plus (acc P r c j) (shapeCast S1x1x64x512 (rnd (acc P r (pr c r j) j)) unsq)

/-- What device c sends in round r for chunk j. -/
def sent (P : Dev nD → FVec F S256x512 .f32) (c : Dev nD) (r : ℕ) (j : Fin 4) : FVec F S64x512 .bf16 := rnd (acc P r c j)

/-- What the receive slot (r, j) of device c reads once its partner's copy has landed. -/
def landed (P : Dev nD → FVec F S256x512 .f32) (c : Dev nD) (r : ℕ) (j : Fin 4) : Vec F S1x1x64x512 .bf16 :=
  shapeCast S1x1x64x512 (sent P (pr c r j) r j) unsq

/-- One more round adds what has landed to the running sum. -/
theorem acc_succ (P : Dev nD → FVec F S256x512 .f32) (r : ℕ) (c : Dev nD) (j : Fin 4) :
    acc P (r + 1) c j = plus (acc P r c j) (landed P c r j) := rfl

/-! ## Resources -/

/-- The ghost state: the pipeline's, and the rounds of the kernel's own counters. -/
abbrev UU : Type := UR sig nD τ × URounds (GSem nD τ sig) (Fin 3)

local notation "𝕄" => MT nD τ sig Unit (Elt F) ℕ UU ℕ

/-- Where the pipeline's ghost state lives. -/
abbrev EP : Emb (UR sig nD τ) (MT nD τ sig Unit (Elt F) ℕ UU ℕ) := embL

/-- Where the ghost state of the kernel's own counters lives. -/
abbrev ER : Emb (URounds (GSem nD τ sig) (Fin 3)) (MT nD τ sig Unit (Elt F) ℕ UU ℕ) := embR

variable (P : Dev nD → FVec F S256x512 .f32)

/-- A window of device c's memory, reading X. -/
def has (c : Dev nD) (v : Memref sig .tc .vmem S64x512 .bf16) (X : FVec F S64x512 .bf16) : sProp 𝕄 :=
  iprop(∃ f : Buf (Elt F) (v.view.loc (c : Thread nD τ)), ⌜v.view.read (Elt F) f = X⌝ ∗ (v.view.loc (c : Thread nD τ) ↦[v.view.set]{fullShare} f))

/-- The same window at contents not chosen. -/
def some (c : Dev nD) (v : Memref sig .tc .vmem S64x512 .bf16) : sProp 𝕄 :=
  iprop(∃ f : Buf (Elt F) (v.view.loc (c : Thread nD τ)), (v.view.loc (c : Thread nD τ) ↦[v.view.set]{fullShare} f))

/-- The transfers at the k-th mask. -/
def atMask (k : Fin 3) : Finset Tr := Finset.univ.filter fun x => mk x.1.val x.2 = k

/-- What the k-th partner's unit on the barrier hands device c: the receive slots of that partner that c will write, and
    that their semaphores and the partner's second barrier are in use from here on. -/
def barPay (c : Dev nD) (k : Fin 3) : sProp 𝕄 :=
  iprop((bigSep (atMask k) fun x => iprop(some (px k c) (rView x.1 x.2) ∗ reached ER (recvCell (px k c) x.1 x.2) 0))
    ∗ reached ER (secCell (px k c)) 0)

/-- What an own copy hands back: the send slot, holding what was sent. -/
def sendPay (c : Dev nD) (r : Fin 3) (j : Fin 4) : sProp 𝕄 := has c (sView j) (sent P c r j)

/-- What the partner's copy hands over: the receive slot, holding what the partner sent. -/
def recvPay (c : Dev nD) (r : Fin 3) (j : Fin 4) : sProp 𝕄 := has c (rView r j) (sent P (pr c r j) r j)

/-- The schedule: one round on every cell; three units of one on a barrier, one copy's units on a send or receive cell. -/
def sched : Rounds.Schedule (GSem nD τ sig) (Fin 3) 𝕄 where
  duties g r := if r = 0 ∧ g.1.2 = .tc then
      (match role g.2 with | .bar | .sec => Finset.univ | .snd _ _ | .rcv _ _ => {0} | .other => ∅) else ∅
  unitless _ := False
  amount g _ _ := match role g.2 with | .bar | .sec => 1 | _ => N
  payload g _ d := match role g.2 with
    | .bar => barPay g.1.1 d
    | .snd r j => sendPay P g.1.1 r j
    | .rcv r j => recvPay P g.1.1 r j
    | _ => iprop(emp)
  amount_pos g _ _ _ := by
    rcases role g.2 with _ | _ | _ | _ | _ <;> first | exact Nat.one_pos | exact N_pos

/-- What a unit hands over may be kept in a counter's invariant. -/
instance sched_payload_storable (g : GSem nD τ sig) (r : ℕ) (d : Fin 3) :
    BI.Storable (upEmb : UEmb _ 𝕄) ((sched P).payload g r d) := by
  show BI.Storable upEmb (match role g.2 with
    | .bar => barPay g.1.1 d
    | .snd r j => sendPay P g.1.1 r j
    | .rcv r j => recvPay P g.1.1 r j
    | _ => iprop(emp))
  unfold barPay sendPay recvPay has some
  rcases role g.2 with _ | _ | _ | _ | _ <;> infer_instance

section Tables

variable (c : Dev nD) (r : Fin 3) (j : Fin 4)

/-- The barrier's counter is paid by the three partners. -/
theorem duties_bar : (sched P).duties (barCell c) 0 = Finset.univ := by
  dsimp only [sched]; rw [if_pos ⟨rfl, rfl⟩, role_bar]

/-- The second barrier's counter is paid by the three partners. -/
theorem duties_sec : (sched P).duties (secCell c) 0 = Finset.univ := by
  dsimp only [sched]; rw [if_pos ⟨rfl, rfl⟩, role_sec]

/-- A send counter is paid once. -/
theorem duties_snd : (sched P).duties (sendCell c r j) 0 = {0} := by
  dsimp only [sched]; rw [if_pos ⟨rfl, rfl⟩, role_snd]

/-- A receive counter is paid once. -/
theorem duties_rcv : (sched P).duties (recvCell c r j) 0 = {0} := by
  dsimp only [sched]; rw [if_pos ⟨rfl, rfl⟩, role_rcv]

/-- No counter is paid after its first round. -/
theorem duties_later (g : GSem nD τ sig) : ∀ n, 1 ≤ n → (sched P).duties g n = ∅ := fun n hn => by
  dsimp only [sched]; rw [if_neg (fun h => by omega)]

/-- A partner pays the barrier one unit. -/
theorem amount_bar (d : Fin 3) : (sched P).amount (barCell c) 0 d = 1 := by dsimp only [sched]; rw [role_bar]

/-- A partner pays the second barrier one unit. -/
theorem amount_sec (d : Fin 3) : (sched P).amount (secCell c) 0 d = 1 := by dsimp only [sched]; rw [role_sec]

/-- A send counter is paid the units of one copy. -/
theorem amount_snd (d : Fin 3) : (sched P).amount (sendCell c r j) 0 d = N := by dsimp only [sched]; rw [role_snd]

/-- A receive counter is paid the units of one copy. -/
theorem amount_rcv (d : Fin 3) : (sched P).amount (recvCell c r j) 0 d = N := by dsimp only [sched]; rw [role_rcv]

/-- The barrier's counter reaches three. -/
theorem expect_bar : (sched P).expect (barCell c) 0 = 3 := by
  unfold Schedule.expect Schedule.amountOf
  rw [duties_bar, Finset.sum_congr rfl fun d _ => amount_bar P c d, Finset.sum_const]; rfl

/-- The second barrier's counter reaches three. -/
theorem expect_sec : (sched P).expect (secCell c) 0 = 3 := by
  unfold Schedule.expect Schedule.amountOf
  rw [duties_sec, Finset.sum_congr rfl fun d _ => amount_sec P c d, Finset.sum_const]; rfl

/-- A send counter reaches the units of one copy. -/
theorem expect_snd : (sched P).expect (sendCell c r j) 0 = N := by
  unfold Schedule.expect Schedule.amountOf; rw [duties_snd, Finset.sum_singleton, amount_snd]

/-- A receive counter reaches the units of one copy. -/
theorem expect_rcv : (sched P).expect (recvCell c r j) 0 = N := by
  unfold Schedule.expect Schedule.amountOf; rw [duties_rcv, Finset.sum_singleton, amount_rcv]

/-- What a partner hands over with its barrier unit. -/
theorem payload_bar (d : Fin 3) : (sched P).payload (barCell c) 0 d = barPay c d := by dsimp only [sched]; rw [role_bar]

/-- Nothing is handed over with a unit of the second barrier. -/
theorem payload_sec (d : Fin 3) : (sched P).payload (secCell c) 0 d = iprop(emp) := by dsimp only [sched]; rw [role_sec]

/-- What comes back to the sender of a copy. -/
theorem payload_snd (d : Fin 3) : (sched P).payload (sendCell c r j) 0 d = sendPay P c r j := by dsimp only [sched]; rw [role_snd]

/-- What a copy hands over to its receiver. -/
theorem payload_rcv (d : Fin 3) : (sched P).payload (recvCell c r j) 0 d = recvPay P c r j := by dsimp only [sched]; rw [role_rcv]

/-- The wait at the barrier collects what all three partners hand over. -/
theorem rest_bar : bigSep ((sched P).duties (barCell c) 0 \ ∅) (fun d => (sched P).payload (barCell c) 0 d) = bigSep Finset.univ (barPay (F := F) c) := by
  rw [Finset.sdiff_empty, duties_bar]; exact bigSep_congr fun d _ => payload_bar P c d

/-- The wait on a send counter collects what comes back to the sender. -/
theorem rest_snd : bigSep ((sched P).duties (sendCell c r j) 0 \ ∅) (fun d => (sched P).payload (sendCell c r j) 0 d) = sendPay P c r j := by
  rw [Finset.sdiff_empty, duties_snd, bigSep_singleton, payload_snd]

/-- The wait on a receive counter collects what the copy hands over. -/
theorem rest_rcv : bigSep ((sched P).duties (recvCell c r j) 0 \ ∅) (fun d => (sched P).payload (recvCell c r j) 0 d) = recvPay P c r j := by
  rw [Finset.sdiff_empty, duties_rcv, bigSep_singleton, payload_rcv]

end Tables

/-! ## The cells, and the records every device may consult -/

/-- The semaphores of a device that belong to the kernel: the second barrier's, the send and the receive semaphores. -/
abbrev Own : Type := Option (Bool × Tr)

/-- The semaphore of each of the kernel's own counters. -/
def osem : Own → SemLoc sig
  | none => .reg secS
  | Option.some (false, r, j) => .dma (sSem r j)
  | Option.some (true, r, j) => .dma (rSem r j)

/-- The kernel's own counters are different semaphores. -/
theorem osem_inj : Function.Injective osem := by decide

/-- None of the kernel's own counters is the barrier's. -/
theorem osem_ne_bar : ∀ k : Own, osem k ≠ .reg barS := by decide

/-- The barrier's counter of each device. -/
def barEmb : Dev nD ↪ GSem nD τ sig := ⟨fun c => barCell c, fun _ _ h => congrArg (fun g : GSem nD τ sig => g.1.1) h⟩

/-- The kernel's own counters of each device. -/
def ownEmb : Dev nD × Own ↪ GSem nD τ sig :=
  ⟨fun ck => ((ck.1 : Thread nD τ), osem ck.2), fun _ _ h =>
    Prod.ext (congrArg (fun g : GSem nD τ sig => g.1.1) h) (osem_inj (congrArg Prod.snd h))⟩

/-- The barrier's cells, and the kernel's own cells. -/
abbrev barCells : Finset (GSem nD τ sig) := Finset.univ.map barEmb

/-- The kernel's own counters, of all devices. -/
abbrev ownCells : Finset (GSem nD τ sig) := Finset.univ.map ownEmb

/-- The barrier's counters and the kernel's own are apart. -/
theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- A device's barrier counter is one of the protocol's. -/
theorem bar_mem (c : Dev nD) : barCell c ∈ (barCells ∪ ownCells : Finset (GSem nD τ sig)) :=
  Finset.mem_union_left _ (Finset.mem_map_of_mem barEmb (Finset.mem_univ c))

/-- A device's own counter is one of the protocol's. -/
theorem own_mem (c : Dev nD) (k : Own) : ((c : Thread nD τ), osem k) ∈ (barCells ∪ ownCells : Finset (GSem nD τ sig)) :=
  Finset.mem_union_right _ (Finset.mem_map_of_mem ownEmb (Finset.mem_univ (c, k)))

/-- Every cell's invariant, under one map of names, and that the barrier's cells are in use. -/
def records (κ : GSem nD τ sig → ℕ) : sProp 𝕄 :=
  iprop((bigSep (barCells ∪ ownCells) fun g => cellInv ER (sched P) (κ g) g) ∗ bigSep barCells fun g => reached ER g 0)

/-- The records may be consulted any number of times. -/
instance records_persistent (κ : GSem nD τ sig → ℕ) : BI.Persistent (records P κ) := by unfold records; infer_instance

/-- The records hold the invariant of each of the protocol's counters. -/
theorem inv_of (κ : GSem nD τ sig → ℕ) {g : GSem nD τ sig} (hg : g ∈ (barCells ∪ ownCells : Finset (GSem nD τ sig))) :
    records P κ ⊢ cellInv ER (sched P) (κ g) g := by
  have h : (bigSep (barCells ∪ ownCells) fun g => (cellInv ER (sched P) (κ g) g : sProp 𝕄)) ⊢ cellInv ER (sched P) (κ g) g := bigSep_elim hg
  unfold records; iintro ⟨H, -⟩; iapply h; iexact H

/-- The records hold the barrier counter's invariant. -/
theorem inv_bar (κ : GSem nD τ sig → ℕ) (c : Dev nD) : records P κ ⊢ cellInv ER (sched P) (κ (barCell c)) (barCell c) := inv_of P κ (bar_mem c)

/-- The records hold the second barrier counter's invariant. -/
theorem inv_sec (κ : GSem nD τ sig → ℕ) (c : Dev nD) : records P κ ⊢ cellInv ER (sched P) (κ (secCell c)) (secCell c) := inv_of P κ (own_mem c none)

/-- The records hold each send counter's invariant. -/
theorem inv_snd (κ : GSem nD τ sig → ℕ) (c : Dev nD) (r : Fin 3) (j : Fin 4) :
    records P κ ⊢ cellInv ER (sched P) (κ (sendCell c r j)) (sendCell c r j) := inv_of P κ (own_mem c (Option.some (false, r, j)))

/-- The records hold each receive counter's invariant. -/
theorem inv_rcv (κ : GSem nD τ sig → ℕ) (c : Dev nD) (r : Fin 3) (j : Fin 4) :
    records P κ ⊢ cellInv ER (sched P) (κ (recvCell c r j)) (recvCell c r j) := inv_of P κ (own_mem c (Option.some (true, r, j)))

/-- The records show the barrier's counter in its first round. -/
theorem reached_bar (κ : GSem nD τ sig → ℕ) (c : Dev nD) : records P κ ⊢ reached ER (barCell c) 0 := by
  have h : (bigSep barCells fun g => (reached ER g 0 : sProp 𝕄)) ⊢ reached ER (barCell c) 0 :=
    bigSep_elim (Finset.mem_map_of_mem barEmb (Finset.mem_univ c))
  unfold records; iintro ⟨-, H⟩; iapply h; iexact H

/-! ## What is owed, and the levels -/

/-- The transfers not among the first n. -/
def left (n : ℕ) : Finset Tr := Finset.univ.filter fun x => n ≤ 4 * x.1.val + x.2.val

/-- At the start every transfer is left. -/
theorem left_zero : left 0 = Finset.univ := by decide

/-- After twelve transfers none is left. -/
theorem left_twelve : left 12 = ∅ := by decide

/-- A transfer is not among those after it. -/
theorem left_notMem (r : Fin 3) (j : Fin 4) : (r, j) ∉ left (4 * r.val + j.val + 1) := by revert r j; decide

/-- The transfers from (r, j) on are (r, j) and those after it. -/
theorem left_step (r : Fin 3) (j : Fin 4) : left (4 * r.val + j.val) = insert (r, j) (left (4 * r.val + j.val + 1)) := by revert r j; decide

/-- A transfer is left after n if its number is at least n. -/
theorem mem_left (n : ℕ) (x : Tr) : x ∈ left n ↔ n ≤ 4 * x.1.val + x.2.val := by
  unfold left; rw [Finset.mem_filter]; exact and_iff_right (Finset.mem_univ _)

/-- What device c still has to pay: the copies of A, the barrier units of B, the second barrier's of C. -/
def owing (c : Dev nD) (A : Finset Tr) (B C : Finset (Fin 3)) : CellTallies nD τ sig Unit :=
  (∑ x ∈ A, tallyAt (recvCell (pr c x.1.val x.2) x.1 x.2) () N)
    + (∑ k ∈ B, tallyAt (barCell (px k c)) () 1) + ∑ k ∈ C, tallyAt (secCell (px k c)) () 1

/-- What device c owes at launch. -/
def O₀ (c : Dev nD) : CellTallies nD τ sig Unit := owing c Finset.univ Finset.univ Finset.univ

/-- The first of four terms moved to the end. -/
theorem to_end {M : Type} [AddCommMonoid M] (w x y z : M) : w + x + y + z = x + y + z + w := by ac_rfl

/-- Starting copy (r, j) pays its units to the partner's receive counter. -/
theorem owing_copy (c : Dev nD) (r : Fin 3) (j : Fin 4) (B C : Finset (Fin 3)) :
    owing c (left (4 * r.val + j.val)) B C
      = owing c (left (4 * r.val + j.val + 1)) B C + tallyAt (recvCell (pr c r.val j) r j) () N := by
  unfold owing
  rw [left_step, Finset.sum_insert (left_notMem r j)]
  exact to_end _ _ _ _

/-- A signal to the k-th partner's barrier pays one unit. -/
theorem owing_bar (c : Dev nD) (k : Fin 3) (A : Finset Tr) (B C : Finset (Fin 3)) (h : k ∉ B) :
    owing c A (insert k B) C = owing c A B C + tallyAt (barCell (px k c)) () 1 := by
  unfold owing; rw [Finset.sum_insert h]; ac_rfl

/-- A signal to the k-th partner's second barrier pays one unit. -/
theorem owing_sec (c : Dev nD) (k : Fin 3) (A : Finset Tr) (B C : Finset (Fin 3)) (h : k ∉ C) :
    owing c A B (insert k C) = owing c A B C + tallyAt (secCell (px k c)) () 1 := by
  unfold owing; rw [Finset.sum_insert h]; ac_rfl

/-- With nothing left to pay, nothing is owed. -/
theorem owing_none (c : Dev nD) : owing c ∅ ∅ ∅ = 0 := by
  unfold owing; simp only [Finset.sum_empty, add_zero]

/-- Every TensorCore cell has the one index. -/
def L (g : GSem nD τ sig) : Finset Unit := if g.1.2 = .tc then {()} else ∅

/-- A counter that is not a TensorCore's has no index. -/
theorem L_of_ne (g : GSem nD τ sig) (h : g.1.2 ≠ .tc) : L g = ∅ := if_neg h

/-- A TensorCore's counter has the one index. -/
theorem L_tc (c : Dev nD) (sm : SemLoc sig) : L ((c : Thread nD τ), sm) = {()} := if_pos rfl

/-- Levels: a wait is for units owed above the waiter's own level. -/
def lv (g : GSem nD τ sig) (_ : Unit) : ℕ := match role g.2 with | .bar => 1 | .rcv r _ => 2 + r.val | .sec => 6 | _ => 0

/-- What is owed somewhere is owed to a partner's receive, barrier or second barrier cell. -/
theorem owing_pos (c : Dev nD) (A : Finset Tr) (B C : Finset (Fin 3)) (g : GSem nD τ sig) (u : Unit) (h : 0 < owing c A B C g u) :
    (∃ x ∈ A, g = recvCell (pr c x.1.val x.2) x.1 x.2) ∨ (∃ k ∈ B, g = barCell (px k c)) ∨ ∃ k ∈ C, g = secCell (px k c) := by
  by_contra hn
  push Not at hn
  refine absurd h (Nat.not_lt.mpr (Nat.le_of_eq ?_))
  unfold owing
  simp only [Pi.add_apply, Finset.sum_apply, Finsupp.add_apply, Finsupp.finset_sum_apply]
  rw [Finset.sum_eq_zero fun x hx => (tallyAt_apply ..).trans (if_neg fun e => hn.1 x hx e.1),
    Finset.sum_eq_zero fun k hk => (tallyAt_apply ..).trans (if_neg fun e => hn.2.1 k hk e.1),
    Finset.sum_eq_zero fun k hk => (tallyAt_apply ..).trans (if_neg fun e => hn.2.2 k hk e.1)]
  rfl

/-- A wait at level b is allowed while every copy still owed is above b and no barrier unit is owed. -/
theorem mayWait (c : Dev nD) (sm : SemLoc sig) (b : ℕ) (hb : lv ((c : Thread nD τ), sm) () ≤ b) (h6 : b < 6) (A : Finset Tr) (C : Finset (Fin 3))
    (hA : ∀ x ∈ A, b < 2 + x.1.val) :
    (levAts L lv : sProp 𝕄) ⊢ MayWait (c : Thread nD τ) sm () (owing c A ∅ C) :=
  MayOwe.of_cut (L := L) (lev := lv) b (fun p hp => by rw [Finset.mem_singleton.mp hp, L_tc]; exact Finset.mem_singleton_self _)
    (fun g u hg => by
      rcases owing_pos c A ∅ C g u hg with ⟨x, _, rfl⟩ | ⟨k, _, rfl⟩ | ⟨k, _, rfl⟩ <;> (rw [L_tc]; exact Finset.mem_singleton_self _))
    (fun p hp => by rw [Finset.mem_singleton.mp hp]; exact hb)
    (fun g u hg => by
      rcases owing_pos c A ∅ C g u hg with ⟨x, hx, rfl⟩ | ⟨k, hk, rfl⟩ | ⟨k, _, rfl⟩
      · dsimp only [lv]; rw [role_rcv]; exact hA x hx
      · exact absurd hk (Finset.notMem_empty _)
      · dsimp only [lv]; rw [role_sec]; exact h6)

/-- The barrier's level. -/
theorem lv_bar (c : Dev nD) : lv (barCell c) () = 1 := by dsimp only [lv]; rw [role_bar]

/-- The second barrier's level, above all others. -/
theorem lv_sec (c : Dev nD) : lv (secCell c) () = 6 := by dsimp only [lv]; rw [role_sec]

/-- The level of the send counters, below all others. -/
theorem lv_snd (c : Dev nD) (r : Fin 3) (j : Fin 4) : lv (sendCell c r j) () = 0 := by dsimp only [lv]; rw [role_snd]

/-- The level of a receive counter rises with its round. -/
theorem lv_rcv (c : Dev nD) (r : Fin 3) (j : Fin 4) : lv (recvCell c r j) () = 2 + r.val := by dsimp only [lv]; rw [role_rcv]

end Cert.KernelIdeal.Butterfly

end
-- ==== Proof.Steps.lean ====
/-
  The kernel's communication, one step at a time, at a symbolic device, round and chunk.
-/
module

public import proofs.«01_k».proof.Proof.Proto
public import Idealize.ShloMosaic.Lib.Pipeline.Value

@[expose] public section

noncomputable section

namespace Cert.KernelIdeal.Butterfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- No loop of the kernel needs a measure. -/
abbrev 𝒱₀ : Variants := Variants.none

variable (P : Dev nD → FVec F S256x512 .f32) (κ : GSem nD τ sig → ℕ)

/-- A window at contents not chosen may be known to hold something. -/
theorem some_of_has (c : Dev nD) (v : Memref sig .tc .vmem S64x512 .bf16) (X : FVec F S64x512 .bf16) : has c v X ⊢ (some c v : sProp 𝕄) := by
  unfold has some; iintro ⟨%f, -, H⟩; iexists f; iexact H

/-- A finished cell gives its counter back at zero. -/
theorem close (κ₀ : ℕ) (g : GSem nD τ sig) :
    iprop(cellInv ER (sched P) κ₀ g ∗ atPos ER g (0 + 1) ∅ 0) ⊢ (|={Set.univ}=> semVal g 0 : sProp 𝕄) :=
  Rounds.cell_close ER (sched P) (Set.mem_univ κ₀) id (duties_later P g)

/-- A send slot covers its block. -/
theorem sView_set (j : Fin 4) : (sView j).view.set = (sB.access (sRect j)).set := View.set_reshape _ _

/-- A receive slot covers its block. -/
theorem rView_set (r : Fin 3) (j : Fin 4) : (rView r j).view.set = (rB.access (rRect r j)).set := View.set_reshape _ _

/-- Holding a slot is holding that block of its buffer. -/
theorem sView_pts (c : Dev nD) (j : Fin 4) (f) :
    (View.loc (c : Thread nD τ) (sView j).view ↦[(sView j).view.set]{fullShare} f : sProp 𝕄)
      = (View.loc (c : Thread nD τ) (sB.access (sRect j)) ↦[(sB.access (sRect j)).set]{fullShare} f) := by rw [sView_set]; rfl

/-- Holding a receive slot is holding that block of the receive buffer. -/
theorem rView_pts (c : Dev nD) (r : Fin 3) (j : Fin 4) (f) :
    (View.loc (c : Thread nD τ) (rView r j).view ↦[(rView r j).view.set]{fullShare} f : sProp 𝕄)
      = (View.loc (c : Thread nD τ) (rB.access (rRect r j)) ↦[(rB.access (rRect r j)).set]{fullShare} f) := by rw [rView_set]; rfl

/-- A slot read as a plane is its block read, with the unit dimensions dropped. -/
theorem sView_read (j : Fin 4) (f : (sB.access (sRect j)).ty.Contents (Elt F)) :
    (sView j).view.read (Elt F) f = shapeCast S64x512 ((sB.access (sRect j)).read (Elt F) f) shapeCasts_S1x64x512_S64x512 := rfl

/-- A receive slot read as a plane is its block read, with the unit dimensions dropped. -/
theorem rView_read (r : Fin 3) (j : Fin 4) (f : (rB.access (rRect r j)).ty.Contents (Elt F)) :
    (rView r j).view.read (Elt F) f = shapeCast S64x512 ((rB.access (rRect r j)).read (Elt F) f) shapeCasts_S1x1x64x512_S64x512 := rfl

/-- A receive slot's block read is the plane read, with the unit dimensions added. -/
theorem rB_read (r : Fin 3) (j : Fin 4) (f : (rB.access (rRect r j)).ty.Contents (Elt F)) :
    (rB.access (rRect r j)).read (Elt F) f = shapeCast S1x1x64x512 ((rView r j).view.read (Elt F) f) unsq :=
  ((congrArg (fun y => shapeCast S1x1x64x512 y unsq) (rView_read r j f)).trans (shapeCast_shapeCast _ shapeCasts_S1x1x64x512_S64x512 unsq)).symm

/-- PUT a chunk into its send slot: a load nobody reads, and the store. -/
theorem put (c : Dev nD) (j : Fin 4) (w : FVec F S1x64x512 .bf16) (X : FVec F S64x512 .bf16)
    (hw : shapeCast S64x512 w shapeCasts_S1x64x512_S64x512 = X)
    {hl : sB.view.LoadsAt (sRect j).toLoadRect} {hx : (sB.access (sRect j)).Stores Finset.univ} {hm}
    {k : PUnit → Prog (TpuEff nD τ sig (Elt F) Λ₀ .tc) PUnit} {Q : PUnit → sProp 𝕄} :
    some c (sView j) ⊢ iprop((has c (sView j) X -∗ wp frame (wpE (defs₀ (F := F)) 𝒱₀ c none) Set.univ (k ⟨⟩) Q)
      -∗ wp frame (wpE (defs₀ (F := F)) 𝒱₀ c none) Set.univ
        (.op (.load sB (sRect j).toLoadRect hl) fun _ => .op (.store sB (sRect j) w Finset.univ hx hm) k) Q) := by
  unfold some has
  iintro ⟨%f, H⟩ Hk
  ihave H := (Entails.of_eq (sView_pts c j f)) $$ H
  have hval := (sView_read j ((sB.access (sRect j)).write (Elt F) f w Finset.univ)).trans
    ((congrArg (fun y => shapeCast S64x512 y shapeCasts_S1x64x512_S64x512) (View.read_write_univ (v := sB.access (sRect j)) (Val := Elt F) f w)).trans hw)
  iapply (wp_load_rect 𝒱₀ (c : Thread nD τ) none Set.univ (m := sB) (r := sRect j) (S := (sB.access (sRect j)).set) (q := fullShare) (f := f)
    (Finset.Subset.refl _)) $$ H
  iintro H
  iapply (wp_store 𝒱₀ (c : Thread nD τ) none Set.univ (m := sB) (r := sRect j) (Mk := Finset.univ) (S := (sB.access (sRect j)).set) (f := f)
    (Finset.Subset.refl _)) $$ H
  iintro H
  iapply Hk
  iexists ((sB.access (sRect j)).write (Elt F) f w Finset.univ)
  isplitr [H]
  · ipureintro; exact hval
  · iapply (Entails.of_eq (sView_pts c j _).symm); iexact H

/-- A copy out of a send slot moves N units. -/
theorem credit_s (j : Fin 4) : (sView j).view.dmaCredit = N := rfl

/-- A copy into a receive slot moves N units. -/
theorem credit_r (r : Fin 3) (j : Fin 4) : (rView r j).view.dmaCredit = N := rfl

/-- A copy between two windows of one shape, both halves of it registered: the source's contents travel. -/
theorem send_core (c c' : Dev nD) (src dst : Memref sig .tc .vmem S64x512 .bf16) (sS sR : DmaSem sig) (X : FVec F S64x512 .bf16)
    (hd₁ : (0 : Fin 3) ∈ (sched P).duties ((c : Thread nD τ), .dma sS) 0) (hd₂ : (0 : Fin 3) ∈ (sched P).duties ((c' : Thread nD τ), .dma sR) 0)
    (hN : dst.view.dmaCredit = N) (hk₁ : (sched P).amount ((c : Thread nD τ), .dma sS) 0 0 = N) (hk₂ : (sched P).amount ((c' : Thread nD τ), .dma sR) 0 0 = N)
    (O₀ O : CellTallies nD τ sig Unit) (hO : O₀ = O + tallyAt ((c' : Thread nD τ), .dma sR) () N) (W : Waits sig Unit)
    (hp₁ : (sched P).payload ((c : Thread nD τ), .dma sS) 0 0 = has c src X) (hp₂ : (sched P).payload ((c' : Thread nD τ), .dma sR) 0 0 = has c' dst X)
    {hsrc : src.view.WordExact} {hdst : dst.view.WordExact} {hsc}
    {hsem : DmaTarget.Typed .vmem (.dma sR) (.remote (Dev.tc c' : Thread nD τ) dst (.dma sS) hsc)}
    {k : PUnit → Prog (TpuEff nD τ sig (Elt F) Λ₀ .tc) PUnit} {Q : PUnit → sProp 𝕄} (κ₁ κ₂ : ℕ) :
    iprop(cellInv ER (sched P) κ₁ ((c : Thread nD τ), .dma sS) ∗ cellInv ER (sched P) κ₂ ((c' : Thread nD τ), .dma sR)
        ∗ has c src X ∗ some c' dst ∗ owes (c : Thread nD τ) O₀ W
        ∗ dutyTok ER ((c : Thread nD τ), .dma sS) 0 0 ∗ reached ER ((c : Thread nD τ), .dma sS) 0
        ∗ dutyTok ER ((c' : Thread nD τ), .dma sR) 0 0 ∗ reached ER ((c' : Thread nD τ), .dma sR) 0)
      ⊢ iprop(((cred (tallyAt ((c : Thread nD τ), .dma sS) () N) ∗ owes (c : Thread nD τ) O W)
          -∗ wp frame (wpE (defs₀ (F := F)) 𝒱₀ c none) Set.univ (k ⟨⟩) Q)
        -∗ wp frame (wpE (defs₀ (F := F)) 𝒱₀ c none) Set.univ
          (.op (.enqueueDma src (.remote (Dev.tc c' : Thread nD τ) dst (.dma sS) hsc) (.dma sR) hsrc hdst hsem) k) Q) := by
  unfold has some at *
  iintro ⟨HI₁, HI₂, ⟨%fs, %hfs, Hs⟩, ⟨%fd, Hd⟩, HO, HtS, HrS, HtR, HrR⟩ Hk
  have h₁ : (View.loc (c : Thread nD τ) src.view ↦[src.view.set]{fullShare} fs : sProp 𝕄) ⊢ (sched P).payload ((c : Thread nD τ), .dma sS) 0 0 := by
    rw [hp₁]; iintro H; iexists fs; isplitr [H]; (· ipureintro; exact hfs); iexact H
  have h₂ : (View.loc (c' : Thread nD τ) dst.view ↦[dst.view.set]{fullShare} (dst.view.write (Elt F) fd (src.view.read (Elt F) fs) Finset.univ) : sProp 𝕄)
      ⊢ (sched P).payload ((c' : Thread nD τ), .dma sR) 0 0 := by
    rw [hp₂]; iintro H; iexists (dst.view.write (Elt F) fd (src.view.read (Elt F) fs) Finset.univ); isplitr [H]
    · ipureintro; exact (View.read_write_univ (v := dst.view) (Val := Elt F) fd _).trans hfs
    · iexact H
  iapply (Rounds.wp_send_pointsTo 𝒱₀ ER (sched P) (c : Thread nD τ) none (c' := (c' : Thread nD τ)) (src := src) (dst := dst)
      (sS := .dma sS) (sem := .dma sR) (q := fullShare) (fs := fs) (κ₁ := κ₁) (κ₂ := κ₂)
      (r₁ := 0) (r₂ := 0) (d₁ := 0) (d₂ := 0) (fd := fd) hd₁ hd₂ () () N hN hk₁ hk₂ O hO (W := W) h₁ h₂) $$ [HI₁ HI₂ Hs Hd HO HtS HrS HtR HrR]
  · isplitl [HI₁]; · iexact HI₁
    isplitl [HI₂]; · iexact HI₂
    isplitl [Hs]; · iexact Hs
    isplitl [Hd]; · iexact Hd
    isplitl [HO]; · iexact HO
    isplitl [HtS]; · iexact HtS
    isplitl [HrS]; · iexact HrS
    isplitl [HtR]; · iexact HtR
    iexact HrR
  iexact Hk

/-- Waiting for the one copy a semaphore counts: its payload is handed over. -/
theorem wait_core (c : Dev nD) (src dst : Memref sig .tc .vmem S64x512 .bf16) (sm : DmaSem sig) (hN : dst.view.dmaCredit = N)
    (hx : (sched P).expect ((c : Thread nD τ), .dma sm) 0 = N) (X : sProp 𝕄)
    (hp : bigSep ((sched P).duties ((c : Thread nD τ), .dma sm) 0 \ ∅) (fun d => (sched P).payload ((c : Thread nD τ), .dma sm) 0 d) = X)
    (O : CellTallies nD τ sig Unit) (W : Waits sig Unit) {h1 : dst.view.WordExact} {h2 : src.view.WordExact}
    {k : PUnit → Prog (TpuEff nD τ sig (Elt F) Λ₀ .tc) PUnit} {Q : PUnit → sProp 𝕄} (κ₁ : ℕ) :
    iprop(cellInv ER (sched P) κ₁ ((c : Thread nD τ), .dma sm) ∗ cred (tallyAt ((c : Thread nD τ), .dma sm) () N) ∗ owes (c : Thread nD τ) O W
        ∗ MayWait (c : Thread nD τ) (.dma sm) () O ∗ atPos ER ((c : Thread nD τ), .dma sm) 0 ∅ 0)
      ⊢ iprop(((owes (c : Thread nD τ) O (insert (SemLoc.dma sm, ()) W) ∗ semVal ((c : Thread nD τ), .dma sm) 0 ∗ X)
          -∗ wp frame (wpE (defs₀ (F := F)) 𝒱₀ c none) Set.univ (k ⟨⟩) Q)
        -∗ wp frame (wpE (defs₀ (F := F)) 𝒱₀ c none) Set.univ (.op (.waitDma2 sm src dst h2 h1) k) Q) := by
  iintro ⟨#HI, HcS, HO, HM, HaS⟩ Hk
  ihave HcS := (Entails.of_eq (show (cred (tallyAt ((c : Thread nD τ), .dma sm) () N) : sProp 𝕄)
    = cred (tallyAt ((c : Thread nD τ), .dma sm) () dst.view.dmaCredit) by rw [hN])) $$ HcS
  iapply (Rounds.wp_wait_rest_token 𝒱₀ ER (sched P) (c : Thread nD τ) none (κ := κ₁)
      (wpE_waitDma2_eq (src := src) (dst := dst) 𝒱₀ (c : Thread nD τ) none Set.univ) (Set.mem_univ _) () (O := O) (W := W) (R := 0) (m := 0) (T := ∅)
      ((Nat.zero_add _).trans (hN.trans hx.symm))) $$ [HcS HO HaS HM]
  · isplitr; · iexact HI
    isplitl [HcS]; · iexact HcS
    isplitl [HO]; · iexact HO
    isplitl [HM]; · iexact HM
    iexact HaS
  iintro ⟨HO, HaS, -, Hpay⟩
  ihave Hs := (Entails.of_eq hp) $$ Hpay
  imod (close P κ₁ ((c : Thread nD τ), .dma sm)) $$ [HaS] with HzS
  · isplitr; · iexact HI
    iexact HaS
  iapply Hk
  isplitl [HO]; · iexact HO
  isplitl [HzS]; · iexact HzS
  iexact Hs

/-- The transfers from n on are transfer n and those after it. -/
theorem left_take (r : Fin 3) (j : Fin 4) (Φ : Tr → sProp 𝕄) :
    bigSep (left (4 * r.val + j.val)) Φ = iprop(Φ (r, j) ∗ bigSep (left (4 * r.val + j.val + 1)) Φ) := by
  rw [left_step]; exact bigSep_insert (left_notMem r j)

/-- What device c carries for transfer x until it starts it. -/
def outbox (c : Dev nD) (x : Tr) : sProp 𝕄 :=
  iprop(dutyTok ER (sendCell c x.1 x.2) 0 0 ∗ reached ER (sendCell c x.1 x.2) 0 ∗ dutyTok ER (recvCell (pr c x.1.val x.2) x.1 x.2) 0 0
    ∗ some (pr c x.1.val x.2) (rView x.1 x.2) ∗ reached ER (recvCell (pr c x.1.val x.2) x.1 x.2) 0)

/-- START the copy of chunk j in round r: what the send slot holds goes to the partner's receive slot. -/
theorem start (c : Dev nD) (r : Fin 3) (j : Fin 4) (n n' : ℕ) (hn : 4 * r.val + j.val = n) (hn' : n' = n + 1) (B C : Finset (Fin 3)) (W : Waits sig Unit)
    (c' : Dev nD) (hc : c' = pr c r.val j)
    {hsrc : (sView j).view.WordExact} {hdst : (rView r j).view.WordExact} {hsc}
    {hsem : DmaTarget.Typed .vmem (.dma (rSem r j)) (.remote (Dev.tc c' : Thread nD τ) (rView r j) (.dma (sSem r j)) hsc)}
    {k : PUnit → Prog (TpuEff nD τ sig (Elt F) Λ₀ .tc) PUnit} {Q : PUnit → sProp 𝕄} :
    iprop(records P κ ∗ has c (sView j) (sent P c r.val j) ∗ bigSep (left n) (outbox (F := F) c) ∗ owes (c : Thread nD τ) (owing c (left n) B C) W)
      ⊢ iprop((cred (tallyAt (sendCell c r j) () N) ∗ bigSep (left n') (outbox (F := F) c) ∗ owes (c : Thread nD τ) (owing c (left n') B C) W
          -∗ wp frame (wpE (defs₀ (F := F)) 𝒱₀ c none) Set.univ (k ⟨⟩) Q)
        -∗ wp frame (wpE (defs₀ (F := F)) 𝒱₀ c none) Set.univ
          (.op (.enqueueDma (sView j) (.remote (Dev.tc c' : Thread nD τ) (rView r j) (.dma (sSem r j)) hsc) (.dma (rSem r j)) hsrc hdst hsem) k) Q) := by
  subst hn hn' hc
  rw [left_take]
  unfold outbox
  dsimp only
  iintro ⟨#HR, Hs, ⟨⟨HtS, #HrS, HtR, Hd, #HrR⟩, Hout⟩, HO⟩ Hk
  iapply (send_core P c (pr c r.val j) (sView j) (rView r j) (sSem r j) (rSem r j) (sent P c r.val j)
      (by rw [duties_snd]; exact Finset.mem_singleton_self _) (by rw [duties_rcv]; exact Finset.mem_singleton_self _)
      (credit_r r j) (amount_snd P c r j 0) (amount_rcv P (pr c r.val j) r j 0) _ _ (owing_copy c r j B C) W
      (payload_snd P c r j 0) ((payload_rcv P (pr c r.val j) r j 0).trans (by unfold recvPay; rw [pr_pr]))
      (κ (sendCell c r j)) (κ (recvCell (pr c r.val j) r j))) $$ [Hs Hd HO HtS HtR]
  · isplitr; · iapply (inv_snd P κ c r j); iexact HR
    isplitr; · iapply (inv_rcv P κ (pr c r.val j) r j); iexact HR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [Hc]; · iexact Hc
  isplitl [Hout]; · iexact Hout
  iexact HO

/-- The transfers among the first n. -/
def past (n : ℕ) : Finset Tr := Finset.univ.filter fun x => 4 * x.1.val + x.2.val < n

/-- At the start no transfer is over. -/
theorem past_zero : past 0 = ∅ := by decide

/-- At the end every transfer is over. -/
theorem past_twelve : past 12 = Finset.univ := by decide

/-- A transfer is not among those before it. -/
theorem past_notMem (r : Fin 3) (j : Fin 4) : (r, j) ∉ past (4 * r.val + j.val) := by revert r j; decide

/-- The transfers up to (r, j) are (r, j) and those before it. -/
theorem past_step (r : Fin 3) (j : Fin 4) : past (4 * r.val + j.val + 1) = insert (r, j) (past (4 * r.val + j.val)) := by revert r j; decide

/-- What is held of the transfers up to (r, j) is what is held of (r, j) and of those before it. -/
theorem past_take (r : Fin 3) (j : Fin 4) (Φ : Tr → sProp 𝕄) :
    bigSep (past (4 * r.val + j.val + 1)) Φ = iprop(Φ (r, j) ∗ bigSep (past (4 * r.val + j.val)) Φ) := by
  rw [past_step]; exact bigSep_insert (past_notMem r j)

/-- What device c carries for the partner's copy x until it has landed, and for its own until the slot is back. -/
def inbox (c : Dev nD) (x : Tr) : sProp 𝕄 :=
  iprop(cred (tallyAt (recvCell c x.1 x.2) () N) ∗ atPos ER (recvCell c x.1 x.2) 0 ∅ 0 ∗ atPos ER (sendCell c x.1 x.2) 0 ∅ 0)

/-- What is left of transfer x when both copies are over: the receive slot, and both counters at zero. -/
def over (c : Dev nD) (x : Tr) : sProp 𝕄 :=
  iprop(some c (rView x.1 x.2) ∗ semVal (sendCell c x.1 x.2) 0 ∗ semVal (recvCell c x.1 x.2) 0)

/-- TAKE what the partner sent of chunk j in round r: wait for the own copy to be over, wait for the partner's to have
    landed, load the receive slot. -/
theorem take (c : Dev nD) (r : Fin 3) (j : Fin 4) (n n' : ℕ) (hn : 4 * r.val + j.val = n) (hn' : n' = n + 1) (A : Finset Tr) (C : Finset (Fin 3))
    (hA : ∀ x ∈ A, 2 + r.val < 2 + x.1.val) (W : Waits sig Unit)
    {h1 : (rView r j).view.WordExact} {h2 : (sView j).view.WordExact} {h3 : (sView j).view.WordExact} {h4 : (rView r j).view.WordExact}
    {hl : rB.view.LoadsAt (rRect r j).toLoadRect}
    {k : Vec F S1x1x64x512 .bf16 → Prog (TpuEff nD τ sig (Elt F) Λ₀ .tc) PUnit} {Q : PUnit → sProp 𝕄} :
    iprop(records P κ ∗ levAts L lv ∗ cred (tallyAt (sendCell c r j) () N) ∗ bigSep (left n) (inbox (F := F) c) ∗ bigSep (past n) (over (F := F) c)
        ∗ owes (c : Thread nD τ) (owing c A ∅ C) W)
      ⊢ iprop((some c (sView j) ∗ bigSep (left n') (inbox (F := F) c) ∗ bigSep (past n') (over (F := F) c)
            ∗ owes (c : Thread nD τ) (owing c A ∅ C) (insert (SemLoc.dma (rSem r j), ()) (insert (SemLoc.dma (sSem r j), ()) W))
          -∗ wp frame (wpE (defs₀ (F := F)) 𝒱₀ c none) Set.univ (k (landed P c r.val j)) Q)
        -∗ wp frame (wpE (defs₀ (F := F)) 𝒱₀ c none) Set.univ
          (.op (.waitDma2 (sSem r j) (rView r j) (sView j) h1 h2) fun _ => .op (.waitDma2 (rSem r j) (sView j) (rView r j) h3 h4) fun _ =>
            .op (.load rB (rRect r j).toLoadRect hl) k) Q) := by
  subst hn hn'
  rw [left_take, past_take]
  unfold inbox over
  dsimp only
  iintro ⟨#HR, #Hlev, HcS, ⟨⟨HcR, HaR, HaS⟩, Hin⟩, Hov, HO⟩ Hk
  iapply (wait_core P c (rView r j) (sView j) (sSem r j) (credit_s j) (expect_snd P c r j) _ (rest_snd P c r j) (owing c A ∅ C) W
      (κ (sendCell c r j))) $$ [HcS HO HaS]
  · isplitr; · iapply (inv_snd P κ c r j); iexact HR
    isplitl [HcS]; · iexact HcS
    isplitl [HO]; · iexact HO
    isplitr
    · iapply (mayWait c (.dma (sSem r j)) 0 (le_of_eq (lv_snd c r j)) (by decide) A C (fun x _ => by omega)); iexact Hlev
    iexact HaS
  iintro ⟨HO, HzS, Hs⟩
  iapply (wait_core P c (sView j) (rView r j) (rSem r j) (credit_r r j) (expect_rcv P c r j) _ (rest_rcv P c r j) (owing c A ∅ C) _
      (κ (recvCell c r j))) $$ [HcR HO HaR]
  · isplitr; · iapply (inv_rcv P κ c r j); iexact HR
    isplitl [HcR]; · iexact HcR
    isplitl [HO]; · iexact HO
    isplitr
    · iapply (mayWait c (.dma (rSem r j)) (2 + r.val) (le_of_eq (lv_rcv c r j)) (by omega) A C hA); iexact Hlev
    iexact HaR
  iintro ⟨HO, HzR, Hv⟩
  unfold recvPay sendPay has
  icases Hv with ⟨%f, %hf, Hv⟩
  ihave Hv := (Entails.of_eq (rView_pts c r j f)) $$ Hv
  iapply (wp_load_rect 𝒱₀ (c : Thread nD τ) none Set.univ (m := rB) (r := rRect r j) (S := (rB.access (rRect r j)).set) (q := fullShare) (f := f)
    (Finset.Subset.refl _)) $$ Hv
  iintro Hv
  have hload : (rB.access (rRect r j)).read (Elt F) f = landed P c r.val j := by
    unfold landed; rw [← hf]
    exact rB_read r j f
  rw [hload]
  iapply Hk
  isplitl [Hs]
  · icases Hs with ⟨%g, -, Hs⟩; unfold some; iexists g; iexact Hs
  isplitl [Hin]; · iexact Hin
  isplitr [HO]
  · isplitr [Hov]
    · isplitl [Hv]; · unfold some; iexists f; iapply (Entails.of_eq (rView_pts c r j f).symm); iexact Hv
      isplitl [HzS]; · iexact HzS
      iexact HzR
    · iexact Hov
  iexact HO

/-! ## The two barriers -/

/-- Every transfer uses one of the three masks. -/
theorem masks_univ : (Finset.univ : Finset Tr) = atMask 0 ∪ (atMask 1 ∪ atMask 2) := by decide

/-- No transfer of the first mask uses another. -/
theorem masks_disj : Disjoint (atMask 0) (atMask 1 ∪ atMask 2) := by decide

/-- No transfer of the second mask uses the third. -/
theorem masks_disj' : Disjoint (atMask 1) (atMask 2) := by decide

/-- The transfers, mask by mask. -/
theorem by_mask (Φ : Tr → sProp 𝕄) :
    bigSep Finset.univ Φ = iprop(bigSep (atMask 0) Φ ∗ bigSep (atMask 1) Φ ∗ bigSep (atMask 2) Φ) := by
  rw [masks_univ]
  exact (bigSep_union masks_disj).trans (congrArg (fun z : sProp 𝕄 => iprop(bigSep (atMask 0) Φ ∗ z)) (bigSep_union masks_disj'))

/-- Something held for each of three partners, one by one. -/
theorem three (Φ : Fin 3 → sProp 𝕄) : bigSep Finset.univ Φ = iprop(Φ 0 ∗ Φ 1 ∗ Φ 2) := by
  rw [show (Finset.univ : Finset (Fin 3)) = insert 0 (insert 1 {2}) by decide]
  exact (bigSep_insert (by decide)).trans (congrArg (fun z : sProp 𝕄 => iprop(Φ 0 ∗ z))
    ((bigSep_insert (by decide)).trans (congrArg (fun z : sProp 𝕄 => iprop(Φ 1 ∗ z)) bigSep_singleton)))

/-- The partner in a transfer is the partner at its mask. -/
theorem partner_of_mask (c : Dev nD) (k : Fin 3) (x : Tr) (hx : x ∈ atMask k) : px k c = pr c x.1.val x.2 := by
  unfold pr; rw [(Finset.mem_filter.mp hx).2]

/-- A receive slot of device c that its partner may write from now on. -/
def offered (c : Dev nD) (x : Tr) : sProp 𝕄 := iprop(some c (rView x.1 x.2) ∗ reached ER (recvCell c x.1 x.2) 0)

/-- SIGNAL the k-th partner's barrier: the receive slots of this mask go with the unit. -/
theorem signalBar (c c' : Dev nD) (k : Fin 3) (hc : c' = px k c) (A : Finset Tr) (B C : Finset (Fin 3)) (hk : k ∉ B) (W : Waits sig Unit)
    (n : ℤ) (hn : n = 1) {kk : PUnit → Prog (TpuEff nD τ sig (Elt F) Λ₀ .tc) PUnit} {Q : PUnit → sProp 𝕄} :
    iprop(records P κ ∗ dutyTok ER (barCell (px k c)) 0 k ∗ bigSep (atMask k) (offered (F := F) c) ∗ reached ER (secCell c) 0
        ∗ owes (c : Thread nD τ) (owing c A (insert k B) C) W)
      ⊢ iprop((owes (c : Thread nD τ) (owing c A B C) W -∗ wp frame (wpE (defs₀ (F := F)) 𝒱₀ c none) Set.univ (kk ⟨⟩) Q)
        -∗ wp frame (wpE (defs₀ (F := F)) 𝒱₀ c none) Set.univ (.op (.semSignal (Dev.tc c' : Thread nD τ) barS n) kk) Q) := by
  subst hc hn
  iintro ⟨#HR, Ht, Hs, #Hsec, HO⟩ Hk
  have hpay : iprop(bigSep (atMask k) (offered (F := F) c) ∗ reached ER (secCell c) 0) ⊢ (sched P).payload (barCell (px k c)) 0 k := by
    rw [payload_bar]; unfold barPay offered; rw [px_px]
  iapply (Rounds.wp_signal 𝒱₀ ER (sched P) (c : Thread nD τ) none (dst := (px k c : Thread nD τ)) (sem := barS) (r := 0) (d := k) (k' := 1)
      (κ := κ (barCell (px k c))) (by rw [duties_bar]; exact Finset.mem_univ _) (amount_bar P (px k c) k) () (owing c A B C)
      (owing_bar c k A B C hk)) $$ [HO Ht Hs]
  · isplitr; · iapply (inv_bar P κ (px k c)); iexact HR
    isplitl [HO]; · iexact HO
    isplitl [Ht]; · iexact Ht
    isplitl [Hs]
    · iapply hpay
      isplitl [Hs]; · iexact Hs
      iexact Hsec
    · iapply (reached_bar P κ (px k c)); iexact HR
  iexact Hk

/-- WAIT for the three partners: their receive slots come with the units. -/
theorem waitBar (c : Dev nD) (A : Finset Tr) (C : Finset (Fin 3)) (W : Waits sig Unit)
    (n : ℤ) (hn : n = 3) {kk : PUnit → Prog (TpuEff nD τ sig (Elt F) Λ₀ .tc) PUnit} {Q : PUnit → sProp 𝕄} :
    iprop(records P κ ∗ levAts L lv ∗ cred (tallyAt (barCell c) () 3) ∗ atPos ER (barCell c) 0 ∅ 0 ∗ owes (c : Thread nD τ) (owing c A ∅ C) W)
      ⊢ iprop((owes (c : Thread nD τ) (owing c A ∅ C) (insert (SemLoc.reg barS, ()) W) ∗ semVal (barCell c) 0
            ∗ bigSep Finset.univ (fun x : Tr => iprop(some (pr c x.1.val x.2) (rView x.1 x.2) ∗ reached ER (recvCell (pr c x.1.val x.2) x.1 x.2) 0))
            ∗ bigSep Finset.univ (fun k : Fin 3 => reached ER (secCell (px k c)) 0)
          -∗ wp frame (wpE (defs₀ (F := F)) 𝒱₀ c none) Set.univ (kk ⟨⟩) Q)
        -∗ wp frame (wpE (defs₀ (F := F)) 𝒱₀ c none) Set.univ (.op (.semWait barS n) kk) Q) := by
  subst hn
  iintro ⟨#HR, #Hlev, Hc, Ha, HO⟩ Hk
  iapply (Rounds.wp_wait_rest_token 𝒱₀ ER (sched P) (c : Thread nD τ) none (κ := κ (barCell c)) (k' := 3)
      (wpE_semWait_eq 𝒱₀ (c : Thread nD τ) none Set.univ) (Set.mem_univ _) () (O := owing c A ∅ C) (W := W) (R := 0) (m := 0) (T := ∅)
      ((Nat.zero_add _).trans (expect_bar P c).symm)) $$ [Hc HO Ha]
  · isplitr; · iapply (inv_bar P κ c); iexact HR
    isplitl [Hc]; · iexact Hc
    isplitl [HO]; · iexact HO
    isplitr
    · iapply (mayWait c (.reg barS) 1 (le_of_eq (lv_bar c)) (by decide) A C (fun x _ => by omega)); iexact Hlev
    iexact Ha
  iintro ⟨HO, Ha, -, Hpay⟩
  have hpay : bigSep ((sched P).duties (barCell c) 0 \ ∅) (fun d => (sched P).payload (barCell c) 0 d)
      ⊢ iprop(bigSep Finset.univ (fun x : Tr => iprop(some (pr c x.1.val x.2) (rView x.1 x.2) ∗ reached ER (recvCell (pr c x.1.val x.2) x.1 x.2) 0))
          ∗ bigSep Finset.univ (fun k : Fin 3 => (reached ER (secCell (px k c)) 0 : sProp 𝕄))) := by
    have hb : ∀ k : Fin 3, (barPay c k : sProp 𝕄)
        = iprop(bigSep (atMask k) (fun x : Tr => iprop(some (pr c x.1.val x.2) (rView x.1 x.2) ∗ reached ER (recvCell (pr c x.1.val x.2) x.1 x.2) 0))
          ∗ reached ER (secCell (px k c)) 0) := fun k => by
      unfold barPay
      rw [bigSep_congr (Ψ := fun x : Tr => iprop(some (pr c x.1.val x.2) (rView x.1 x.2) ∗ reached ER (recvCell (pr c x.1.val x.2) x.1 x.2) 0))
        fun x hx => by rw [partner_of_mask c k x hx]]
    rw [rest_bar, three, three, by_mask, hb, hb, hb]
    iintro ⟨⟨H0, R0⟩, ⟨H1, R1⟩, H2, R2⟩
    isplitl [H0 H1 H2]
    · isplitl [H0]; · iexact H0
      isplitl [H1]; · iexact H1
      iexact H2
    · isplitl [R0]; · iexact R0
      isplitl [R1]; · iexact R1
      iexact R2
  ihave Hp := hpay $$ Hpay
  icases Hp with ⟨Hslots, Hsec⟩
  imod (close P (κ (barCell c)) (barCell c)) $$ [Ha] with Hz
  · isplitr; · iapply (inv_bar P κ c); iexact HR
    iexact Ha
  iapply Hk
  isplitl [HO]; · iexact HO
  isplitl [Hz]; · iexact Hz
  isplitl [Hslots]; · iexact Hslots
  iexact Hsec

/-- SIGNAL the k-th partner's second barrier. -/
theorem signalSec (c c' : Dev nD) (k : Fin 3) (hc : c' = px k c) (A : Finset Tr) (B C : Finset (Fin 3)) (hk : k ∉ C) (W : Waits sig Unit)
    (n : ℤ) (hn : n = 1) {kk : PUnit → Prog (TpuEff nD τ sig (Elt F) Λ₀ .tc) PUnit} {Q : PUnit → sProp 𝕄} :
    iprop(records P κ ∗ dutyTok ER (secCell (px k c)) 0 k ∗ reached ER (secCell (px k c)) 0
        ∗ owes (c : Thread nD τ) (owing c A B (insert k C)) W)
      ⊢ iprop((owes (c : Thread nD τ) (owing c A B C) W -∗ wp frame (wpE (defs₀ (F := F)) 𝒱₀ c none) Set.univ (kk ⟨⟩) Q)
        -∗ wp frame (wpE (defs₀ (F := F)) 𝒱₀ c none) Set.univ (.op (.semSignal (Dev.tc c' : Thread nD τ) secS n) kk) Q) := by
  subst hc hn
  iintro ⟨#HR, Ht, #Hsec, HO⟩ Hk
  iapply (Rounds.wp_signal 𝒱₀ ER (sched P) (c : Thread nD τ) none (dst := (px k c : Thread nD τ)) (sem := secS) (r := 0) (d := k) (k' := 1)
      (κ := κ (secCell (px k c))) (by rw [duties_sec]; exact Finset.mem_univ _) (amount_sec P (px k c) k) () (owing c A B C)
      (owing_sec c k A B C hk)) $$ [HO Ht]
  · isplitr; · iapply (inv_sec P κ (px k c)); iexact HR
    isplitl [HO]; · iexact HO
    isplitl [Ht]; · iexact Ht
    isplitl []
    · rw [payload_sec]; iempintro
    · iexact Hsec
  iexact Hk

/-- WAIT for the three partners' second signals, owing nothing any more. -/
theorem waitSec (c : Dev nD) (W : Waits sig Unit)
    (n : ℤ) (hn : n = 3) {kk : PUnit → Prog (TpuEff nD τ sig (Elt F) Λ₀ .tc) PUnit} {Q : PUnit → sProp 𝕄} :
    iprop(records P κ ∗ cred (tallyAt (secCell c) () 3) ∗ atPos ER (secCell c) 0 ∅ 0 ∗ owes (c : Thread nD τ) (owing c ∅ ∅ ∅) W)
      ⊢ iprop((owes (c : Thread nD τ) 0 (insert (SemLoc.reg secS, ()) W) ∗ semVal (secCell c) 0
          -∗ wp frame (wpE (defs₀ (F := F)) 𝒱₀ c none) Set.univ (kk ⟨⟩) Q)
        -∗ wp frame (wpE (defs₀ (F := F)) 𝒱₀ c none) Set.univ (.op (.semWait secS n) kk) Q) := by
  subst hn
  rw [owing_none]
  iintro ⟨#HR, Hc, Ha, HO⟩ Hk
  iapply (Rounds.wp_wait_rest_token 𝒱₀ ER (sched P) (c : Thread nD τ) none (κ := κ (secCell c)) (k' := 3)
      (wpE_semWait_eq 𝒱₀ (c : Thread nD τ) none Set.univ) (Set.mem_univ _) () (O := 0) (W := W) (R := 0) (m := 0) (T := ∅)
      ((Nat.zero_add _).trans (expect_sec P c).symm)) $$ [Hc HO Ha]
  · isplitr; · iapply (inv_sec P κ c); iexact HR
    isplitl [Hc]; · iexact Hc
    isplitl [HO]; · iexact HO
    isplitr
    · rw [MayWait_zero]; iempintro
    iexact Ha
  iintro ⟨HO, Ha, -, -⟩
  imod (close P (κ (secCell c)) (secCell c)) $$ [Ha] with Hz
  · isplitr; · iapply (inv_sec P κ c); iexact HR
    iexact Ha
  iapply Hk
  isplitl [HO]; · iexact HO
  iexact Hz

/-! ## The scratch buffers as slots -/

/-- The send slots cover the send buffer. -/
theorem sView_univ : (Finset.univ : Finset (Fin 4)).biUnion (fun j => (sRect j).set) = Finset.univ := by
  ext i
  simp only [Finset.mem_biUnion, Finset.mem_univ, true_and, iff_true]
  refine ⟨i 0, ?_⟩
  rw [Rect.mem_set_unit]
  intro a
  match a with
  | ⟨0, _⟩ => exact ⟨le_refl _, Nat.lt_succ_self _⟩
  | ⟨1, _⟩ => exact ⟨Nat.zero_le _, by have := (i 1).isLt; simpa using this⟩
  | ⟨2, _⟩ => exact ⟨Nat.zero_le _, by have := (i 2).isLt; simpa using this⟩

/-- The send slots do not overlap. -/
theorem sView_disj (j j' : Fin 4) (h : j ≠ j') : Disjoint (sRect j).set (sRect j').set := by
  refine Rect.unit_disjoint 0 ?_
  have : j.val ≠ j'.val := fun e => h (Fin.ext e)
  show j.val + 1 ≤ j'.val ∨ j'.val + 1 ≤ j.val
  omega

/-- The receive slots cover the receive buffer. -/
theorem rView_univ : (Finset.univ : Finset Tr).biUnion (fun x => (rRect x.1 x.2).set) = Finset.univ := by
  ext i
  simp only [Finset.mem_biUnion, Finset.mem_univ, true_and, iff_true]
  refine ⟨(i 0, i 1), ?_⟩
  rw [Rect.mem_set_unit]
  intro a
  match a with
  | ⟨0, _⟩ => exact ⟨le_refl _, Nat.lt_succ_self _⟩
  | ⟨1, _⟩ => exact ⟨le_refl _, Nat.lt_succ_self _⟩
  | ⟨2, _⟩ => exact ⟨Nat.zero_le _, by have := (i 2).isLt; simpa using this⟩
  | ⟨3, _⟩ => exact ⟨Nat.zero_le _, by have := (i 3).isLt; simpa using this⟩

/-- The receive slots do not overlap. -/
theorem rView_disj (x x' : Tr) (h : x ≠ x') : Disjoint (rRect x.1 x.2).set (rRect x'.1 x'.2).set := by
  by_cases h1 : x.1 = x'.1
  · refine Rect.unit_disjoint 1 ?_
    have : x.2.val ≠ x'.2.val := fun e => h (Prod.ext h1 (Fin.ext e))
    show x.2.val + 1 ≤ x'.2.val ∨ x'.2.val + 1 ≤ x.2.val
    omega
  · refine Rect.unit_disjoint 0 ?_
    have : x.1.val ≠ x'.1.val := fun e => h1 (Fin.ext e)
    show x.1.val + 1 ≤ x'.1.val ∨ x'.1.val + 1 ≤ x.1.val
    omega

/-- A buffer covered by disjoint blocks is its blocks, contents aside, -/
theorem split_blocks {T : Type} [Fintype T] [DecidableEq T] {ℓ : Loc nD τ sig} (K : T → Finset (Idx ℓ)) (hu : Finset.univ.biUnion K = Finset.univ)
    (hd : ∀ t t', t ≠ t' → Disjoint (K t) (K t')) :
    iprop(∃ f : Buf (Elt F) ℓ, ℓ ↦{fullShare} f) ⊢ (bigSep Finset.univ (fun t => iprop(∃ f : Buf (Elt F) ℓ, ℓ ↦[K t]{fullShare} f)) : sProp 𝕄) := by
  have h : ∀ f : Buf (Elt F) ℓ, (ℓ ↦{fullShare} f : sProp 𝕄) ⊢ bigSep Finset.univ (fun t => iprop(∃ f : Buf (Elt F) ℓ, ℓ ↦[K t]{fullShare} f)) := fun f => by
    refine (Entails.of_eq ((congrArg (fun S => (ℓ ↦[S]{fullShare} f : sProp 𝕄)) hu.symm).trans
      (pointsTo_biUnion Finset.univ K fun t _ t' _ => hd t t'))).trans (bigSep_mono fun t _ => ?_)
    show (ℓ ↦[K t]{fullShare} f : sProp 𝕄) ⊢ iprop(∃ f : Buf (Elt F) ℓ, ℓ ↦[K t]{fullShare} f)
    iintro H; iexists f; iexact H
  iintro ⟨%f, H⟩
  iapply (h f); iexact H

/-- and the blocks are the buffer. -/
theorem join_blocks {T : Type} [Fintype T] [DecidableEq T] {ℓ : Loc nD τ sig} (K : T → Finset (Idx ℓ)) (hu : Finset.univ.biUnion K = Finset.univ)
    (hd : ∀ t t', t ≠ t' → Disjoint (K t) (K t')) :
    (bigSep Finset.univ (fun t => iprop(∃ f : Buf (Elt F) ℓ, ℓ ↦[K t]{fullShare} f)) : sProp 𝕄) ⊢ iprop(∃ f : Buf (Elt F) ℓ, ℓ ↦{fullShare} f) := by
  have h : ∀ fs : T → Buf (Elt F) ℓ, (bigSep Finset.univ (fun t => ℓ ↦[K t]{fullShare} fs t) : sProp 𝕄) ⊢ iprop(∃ f : Buf (Elt F) ℓ, ℓ ↦{fullShare} f) := fun fs => by
    refine (pointsTo_biUnion_join Finset.univ K fs (Classical.choice inferInstance) fun t _ t' _ => hd t t').trans ?_
    rw [hu]
    iintro ⟨%g, -, H⟩; iexists g; iexact H
  iintro H
  ihave H := (bigSep_exists_pi Finset.univ fun t (f : Buf (Elt F) ℓ) => (ℓ ↦[K t]{fullShare} f : sProp 𝕄)) $$ H
  icases H with ⟨%fs, H⟩
  iapply (h fs); iexact H

/-- The send buffer is its slots, and the slots are the buffer. -/
theorem send_slots (c : Dev nD) (j : Fin 4) :
    (iprop(∃ f : Buf (Elt F) ((c : Thread nD τ).loc cc0_scratch0), (c : Thread nD τ).loc cc0_scratch0 ↦[(sRect j).set]{fullShare} f) : sProp 𝕄)
      = some c (sView j) := by
  unfold some; rw [sView_set, View.set_slice_whole]; rfl

/-- A block of the receive buffer is its slot. -/
theorem recv_slots (c : Dev nD) (x : Tr) :
    (iprop(∃ f : Buf (Elt F) ((c : Thread nD τ).loc cc0_scratch1), (c : Thread nD τ).loc cc0_scratch1 ↦[(rRect x.1 x.2).set]{fullShare} f) : sProp 𝕄)
      = some c (rView x.1 x.2) := by
  unfold some; rw [rView_set, View.set_slice_whole]; rfl

/-- The send buffer is given up for its slots. -/
theorem send_split (c : Dev nD) :
    iprop(∃ f : Buf (Elt F) ((c : Thread nD τ).loc cc0_scratch0), (c : Thread nD τ).loc cc0_scratch0 ↦{fullShare} f)
      ⊢ (bigSep Finset.univ (fun j => some c (sView j)) : sProp 𝕄) :=
  (split_blocks (ℓ := (c : Thread nD τ).loc cc0_scratch0) (fun j => (sRect j).set) sView_univ sView_disj).trans
    (Entails.of_eq (bigSep_congr fun j _ => send_slots c j))

/-- The send slots make up the send buffer again. -/
theorem send_join (c : Dev nD) :
    (bigSep Finset.univ (fun j => some c (sView j)) : sProp 𝕄)
      ⊢ iprop(∃ f : Buf (Elt F) ((c : Thread nD τ).loc cc0_scratch0), (c : Thread nD τ).loc cc0_scratch0 ↦{fullShare} f) :=
  (Entails.of_eq (bigSep_congr fun j _ => (send_slots c j).symm)).trans
    (join_blocks (ℓ := (c : Thread nD τ).loc cc0_scratch0) (fun j => (sRect j).set) sView_univ sView_disj)

/-- The receive buffer is given up for its slots. -/
theorem recv_split (c : Dev nD) :
    iprop(∃ f : Buf (Elt F) ((c : Thread nD τ).loc cc0_scratch1), (c : Thread nD τ).loc cc0_scratch1 ↦{fullShare} f)
      ⊢ (bigSep Finset.univ (fun x : Tr => some c (rView x.1 x.2)) : sProp 𝕄) :=
  (split_blocks (ℓ := (c : Thread nD τ).loc cc0_scratch1) (fun x : Tr => (rRect x.1 x.2).set) rView_univ rView_disj).trans
    (Entails.of_eq (bigSep_congr fun x _ => recv_slots c x))

/-- The receive slots make up the receive buffer again. -/
theorem recv_join (c : Dev nD) :
    (bigSep Finset.univ (fun x : Tr => some c (rView x.1 x.2)) : sProp 𝕄)
      ⊢ iprop(∃ f : Buf (Elt F) ((c : Thread nD τ).loc cc0_scratch1), (c : Thread nD τ).loc cc0_scratch1 ↦{fullShare} f) :=
  (Entails.of_eq (bigSep_congr fun x _ => (recv_slots c x).symm)).trans
    (join_blocks (ℓ := (c : Thread nD τ).loc cc0_scratch1) (fun x : Tr => (rRect x.1 x.2).set) rView_univ rView_disj)

end Cert.KernelIdeal.Butterfly

end
-- ==== Proof.Body.lean ====
/-
  The whole kernel body, at a symbolic device.
-/
module

public import proofs.«01_k».proof.Proof.Steps
public import Idealize.ShloMosaic.Lib.WritesUnit
public import Idealize.ShloMosaic.Lib.Pointwise.Index

@[expose] public section

noncomputable section

namespace Cert.KernelIdeal.Butterfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P : Dev nD → FVec F S256x512 .f32) (κ : GSem nD τ sig → ℕ)

/-! ## What one device computes before the exchange -/

/-- Head h of batch b lies inside the staged keys or values. -/
theorem hOff_inb (b : Fin 2) (h : Fin 4) : ∀ a, (![b.val, 0, h.val, 0] : Fin 4 → ℕ) a + S1x128x1x64.size a ≤ S2x128x4x64.size a := by
  revert b h; decide
/-- Head h of batch b in the staged keys or values. -/
abbrev hRect (b : Fin 2) (h : Fin 4) : Rect S2x128x4x64 := Rect.unit (s := S2x128x4x64) ![b.val, 0, h.val, 0] S1x128x1x64.size (hOff_inb b h)

/-- The keys of head h of batch b. -/
def headK (X : FVec F S2x128x4x64 .bf16) (b : Fin 2) (h : Fin 4) : FVec F S1x128x1x64 .bf16 := ((Memref.whole cc0_stg2_0).access (hRect b h)).read (Elt F) X

/-- The values of head h of batch b. -/
def headV (X : FVec F S2x128x4x64 .bf16) (b : Fin 2) (h : Fin 4) : FVec F S1x128x1x64 .bf16 := ((Memref.whole cc0_stg3_0).access (hRect b h)).read (Elt F) X

/-- The device's contribution to the result, from its five staged inputs. -/
def part (x : FVec F S256x512 .bf16) (wq : FVec F S512x256 .bf16) (k v : FVec F S2x128x4x64 .bf16) (wo : FVec F S256x512 .bf16) : FVec F S256x512 .f32 :=
  k0_pay16 (k0_pay2 x wq)
    (k0_pay8 (k0_pay2 x wq) (k0_pay3 x wq (headK k 0 0) (headV v 0 0)) (k0_pay5 (k0_pay4 x wq) (headK k 0 1) (headV v 0 1)) (k0_pay6 (headV v 0 2))
      (k0_pay7 (k0_pay2 x wq) (headK k 0 2)) (headK k 0 3) (headV v 0 3))
    (k0_pay12 (k0_pay9 (headV v 1 0)) (k0_pay10 (k0_pay2 x wq) (headK k 1 0)) (k0_pay11 (k0_pay2 x wq) (headK k 1 0)))
    (k0_pay13 (k0_pay2 x wq) (headK k 1 1) (headV v 1 1)) (k0_pay14 (headV v 1 2)) (k0_pay15 (k0_pay2 x wq) (headK k 1 2))
    (Scalar.ofBits .f32 0x3E000000#32) (headK k 1 3) (headV v 1 3) wo

/-! ## What the exchange leaves in the result window -/

/-- Chunk j lies inside the result window. -/
theorem oOff_inb (j : Fin 4) : ∀ a, (![64 * j.val, 0] : Fin 2 → ℕ) a + S64x512.size a ≤ S256x512.size a := by revert j; decide

/-- Chunk j of the result window, as a box. -/
abbrev oRect (j : Fin 4) : Rect S256x512 := Rect.unit (s := S256x512) ![64 * j.val, 0] S64x512.size (oOff_inb j)

/-- Row i of the result is row i mod 64 of the accumulator of chunk i / 64. -/
def total (c : Dev nD) : FVec F S256x512 .f32 := fun i =>
  acc P 3 c ⟨(i 0).val / 64, by have : (i 0).val < 256 := (i 0).isLt; omega⟩
    (ix2 (⟨(i 0).val % 64, Nat.mod_lt _ (by decide)⟩ : Fin 64) (⟨(i 1).val, (i 1).isLt⟩ : Fin 512))

/-- The result window. -/
abbrev oB : Memref sig .tc .vmem S256x512 .f32 := Memref.whole cc0_stg5_0

/-- The four chunks stored one below the other are the whole result, whatever was there before. -/
theorem stored_total (c : Dev nD) (f : oB.view.ty.Contents (Elt F)) :
    (oB.access (oRect 3)).write (Elt F) ((oB.access (oRect 2)).write (Elt F) ((oB.access (oRect 1)).write (Elt F)
      ((oB.access (oRect 0)).write (Elt F) f (acc P 3 c 0) Finset.univ) (acc P 3 c 1) Finset.univ) (acc P 3 c 2) Finset.univ) (acc P 3 c 3) Finset.univ
      = total P c := by
  have h : oB.view.read (Elt F) (oB.view.writes (Elt F) f [⟨oRect 3, acc P 3 c 3⟩, ⟨oRect 2, acc P 3 c 2⟩, ⟨oRect 1, acc P 3 c 1⟩, ⟨oRect 0, acc P 3 c 0⟩]) = total P c := by
    funext i
    have hi : (i 0).val < 256 := (i 0).isLt
    have hmiss : ∀ (j : Fin 4) (L : List (View.Piece (Elt F) S256x512 .f32)), ((i 0).val < 64 * j.val ∨ 64 * j.val + 64 ≤ (i 0).val) →
        oB.view.read (Elt F) (oB.view.writes (Elt F) f (⟨oRect j, acc P 3 c j⟩ :: L)) i = oB.view.read (Elt F) (oB.view.writes (Elt F) f L) i := fun j L h =>
      View.read_writes_cons_rows_of_not_mem oB.view f (oOff_inb j) (acc P 3 c j) L i rfl rfl h
    have hhit : ∀ (j : Fin 4) (L : List (View.Piece (Elt F) S256x512 .f32)), (i 0).val / 64 = j.val →
        oB.view.read (Elt F) (oB.view.writes (Elt F) f (⟨oRect j, acc P 3 c j⟩ :: L)) i = total P c i := fun j L h => by
      refine (View.read_writes_cons_rows_of_mem oB.view f (oOff_inb j) (acc P 3 c j) L i
        (ix2 (⟨(i 0).val % 64, Nat.mod_lt _ (by decide)⟩ : Fin 64) (⟨(i 1).val, (i 1).isLt⟩ : Fin 512)) rfl ?_ rfl).trans ?_
      · show (i 0).val = 64 * j.val + (i 0).val % 64
        omega
      · unfold total
        have e : (⟨(i 0).val / 64, by omega⟩ : Fin 4) = j := Fin.ext h
        rw [e]
    by_cases h3 : (i 0).val / 64 = 3
    · exact hhit 3 _ h3
    rw [hmiss 3 _ (by show (i 0).val < 64 * 3 ∨ 64 * 3 + 64 ≤ (i 0).val; omega)]
    by_cases h2 : (i 0).val / 64 = 2
    · exact hhit 2 _ h2
    rw [hmiss 2 _ (by show (i 0).val < 64 * 2 ∨ 64 * 2 + 64 ≤ (i 0).val; omega)]
    by_cases h1 : (i 0).val / 64 = 1
    · exact hhit 1 _ h1
    rw [hmiss 1 _ (by show (i 0).val < 64 * 1 ∨ 64 * 1 + 64 ≤ (i 0).val; omega)]
    exact hhit 0 _ (by show (i 0).val / 64 = 0; omega)
  exact h

end Cert.KernelIdeal.Butterfly

end
-- ==== Proof.Talk.lean ====
/-
  The whole kernel body, at a symbolic device.
-/
module

public import proofs.«01_k».proof.Proof.Body

@[expose] public section

noncomputable section

namespace Cert.KernelIdeal.Butterfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P : Dev nD → FVec F S256x512 .f32) (κ : GSem nD τ sig → ℕ)

/-- The devices that the kernel computes from its own number: the three partners. -/
theorem devs (c : Dev nD) :
    ((⟨k0_dev1 c, k0_dev1_lt c⟩ : Dev nD) = px 0 c ∧ (⟨k0_dev2 c, k0_dev2_lt c⟩ : Dev nD) = px 1 c ∧ (⟨k0_dev3 c, k0_dev3_lt c⟩ : Dev nD) = px 2 c)
    ∧ ((⟨k0_dev4 c, k0_dev4_lt c⟩ : Dev nD) = pr c 0 0 ∧ (⟨k0_dev5 c, k0_dev5_lt c⟩ : Dev nD) = pr c 0 1
      ∧ (⟨k0_dev6 c, k0_dev6_lt c⟩ : Dev nD) = pr c 0 2 ∧ (⟨k0_dev7 c, k0_dev7_lt c⟩ : Dev nD) = pr c 0 3)
    ∧ ((⟨k0_dev8 c, k0_dev8_lt c⟩ : Dev nD) = pr c 1 0 ∧ (⟨k0_dev9 c, k0_dev9_lt c⟩ : Dev nD) = pr c 1 1
      ∧ (⟨k0_dev10 c, k0_dev10_lt c⟩ : Dev nD) = pr c 1 2 ∧ (⟨k0_dev11 c, k0_dev11_lt c⟩ : Dev nD) = pr c 1 3)
    ∧ ((⟨k0_dev12 c, k0_dev12_lt c⟩ : Dev nD) = pr c 2 0 ∧ (⟨k0_dev13 c, k0_dev13_lt c⟩ : Dev nD) = pr c 2 1
      ∧ (⟨k0_dev14 c, k0_dev14_lt c⟩ : Dev nD) = pr c 2 2 ∧ (⟨k0_dev15 c, k0_dev15_lt c⟩ : Dev nD) = pr c 2 3)
    ∧ ((⟨k0_dev16 c, k0_dev16_lt c⟩ : Dev nD) = px 0 c ∧ (⟨k0_dev17 c, k0_dev17_lt c⟩ : Dev nD) = px 1 c ∧ (⟨k0_dev18 c, k0_dev18_lt c⟩ : Dev nD) = px 2 c) := by
  revert c; decide

/-- A load of a block of a buffer held whole. -/
theorem loadWhole (c : Dev nD) {sp : CoreSpace} {s : Shape} {e : EltTy} (m : Memref sig .tc sp s e) (r : Rect s) (f : Buf (Elt F) (m.view.loc (c : Thread nD τ)))
    {hl : m.view.LoadsAt r.toLoadRect}
    {k : (r.shape.Idx → Elt F e) → Prog (TpuEff nD τ sig (Elt F) Λ₀ .tc) PUnit} {Q : PUnit → sProp 𝕄} :
    (m.view.loc (c : Thread nD τ) ↦[Finset.univ]{fullShare} f : sProp 𝕄)
      ⊢ iprop(((m.view.loc (c : Thread nD τ) ↦[Finset.univ]{fullShare} f)
          -∗ wp frame (wpE (defs₀ (F := F)) 𝒱₀ c none) Set.univ (k ((m.access r).read (Elt F) f)) Q)
        -∗ wp frame (wpE (defs₀ (F := F)) 𝒱₀ c none) Set.univ (.op (.load m r.toLoadRect hl) k) Q) :=
  wp_load_rect 𝒱₀ (c : Thread nD τ) none Set.univ (m := m) (r := r) (S := Finset.univ) (q := fullShare) (f := f) (Finset.subset_univ _)

/-- What device c carries for its own copy x, besides the partner's slot. -/
def tokens (c : Dev nD) (x : Tr) : sProp 𝕄 :=
  iprop(dutyTok ER (sendCell c x.1 x.2) 0 0 ∗ reached ER (sendCell c x.1 x.2) 0 ∗ dutyTok ER (recvCell (pr c x.1.val x.2) x.1 x.2) 0 0)

/-- Device c as it enters the body: every cell of its own open, nothing sent, nothing landed. -/
def ready (c : Dev nD) : sProp 𝕄 :=
  iprop(records P κ ∗ levAts L lv
    ∗ (atPos ER (barCell c) 0 ∅ 0 ∗ cred (tallyAt (barCell c) () 3) ∗ bigSep Finset.univ (fun k : Fin 3 => dutyTok ER (barCell (px k c)) 0 k))
    ∗ (atPos ER (secCell c) 0 ∅ 0 ∗ cred (tallyAt (secCell c) () 3) ∗ reached ER (secCell c) 0
      ∗ bigSep Finset.univ (fun k : Fin 3 => dutyTok ER (secCell (px k c)) 0 k))
    ∗ bigSep Finset.univ (inbox (F := F) c) ∗ bigSep Finset.univ (tokens (F := F) c)
    ∗ bigSep Finset.univ (fun x : Tr => reached ER (recvCell c x.1 x.2) 0))

/-- The slots of both scratch buffers, contents aside. -/
def slots (c : Dev nD) : sProp 𝕄 :=
  iprop(bigSep Finset.univ (fun j => some c (sView j)) ∗ bigSep Finset.univ (fun x : Tr => some c (rView x.1 x.2)))

/-- The five staged inputs. -/
def staged (c : Dev nD) (x : FVec F S256x512 .bf16) (wq : FVec F S512x256 .bf16) (k v : FVec F S2x128x4x64 .bf16) (wo : FVec F S256x512 .bf16) : sProp 𝕄 :=
  iprop(((Memref.whole cc0_stg0_0).view.loc (c : Thread nD τ) ↦[Finset.univ]{fullShare} x)
    ∗ ((Memref.whole cc0_stg1_0).view.loc (c : Thread nD τ) ↦[Finset.univ]{fullShare} wq)
    ∗ ((Memref.whole cc0_stg2_0).view.loc (c : Thread nD τ) ↦[Finset.univ]{fullShare} k)
    ∗ ((Memref.whole cc0_stg3_0).view.loc (c : Thread nD τ) ↦[Finset.univ]{fullShare} v)
    ∗ ((Memref.whole cc0_stg4_0).view.loc (c : Thread nD τ) ↦[Finset.univ]{fullShare} wo))

/-- The staged result. -/
def result (c : Dev nD) (y : FVec F S256x512 .f32) : sProp 𝕄 := iprop(oB.view.loc (c : Thread nD τ) ↦[Finset.univ]{fullShare} y)

/-- Device c as it leaves the body: every counter of its own at zero. -/
def finished (c : Dev nD) : sProp 𝕄 :=
  iprop(semVal (barCell c) 0 ∗ semVal (secCell c) 0
    ∗ bigSep Finset.univ (fun x : Tr => iprop(semVal (sendCell c x.1 x.2) 0 ∗ semVal (recvCell c x.1 x.2) 0)))

/-- A store into a block of a buffer held whole. -/
theorem storeWhole (c : Dev nD) {sp : CoreSpace} {s : Shape} {e : EltTy} (m : Memref sig .tc sp s e) (r : Rect s) (w : r.shape.Idx → Elt F e)
    (f : Buf (Elt F) ((m.access r).loc (c : Thread nD τ))) {hx : (m.access r).Stores Finset.univ} {hm}
    {k : PUnit → Prog (TpuEff nD τ sig (Elt F) Λ₀ .tc) PUnit} {Q : PUnit → sProp 𝕄} :
    ((m.access r).loc (c : Thread nD τ) ↦[Finset.univ]{fullShare} f : sProp 𝕄)
      ⊢ iprop((((m.access r).loc (c : Thread nD τ) ↦[Finset.univ]{fullShare} ((m.access r).write (Elt F) f w Finset.univ))
          -∗ wp frame (wpE (defs₀ (F := F)) 𝒱₀ c none) Set.univ (k ⟨⟩) Q)
        -∗ wp frame (wpE (defs₀ (F := F)) 𝒱₀ c none) Set.univ (.op (.store m r w Finset.univ hx hm) k) Q) :=
  wp_store 𝒱₀ (c : Thread nD τ) none Set.univ (m := m) (r := r) (Mk := Finset.univ) (S := Finset.univ) (f := f) (Finset.subset_univ _)

/-- Four of a kind, one by one. -/
theorem four (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) by decide]
  exact (bigSep_insert (by decide)).trans (congrArg (fun z : sProp 𝕄 => iprop(Φ 0 ∗ z))
    ((bigSep_insert (by decide)).trans (congrArg (fun z : sProp 𝕄 => iprop(Φ 1 ∗ z))
      ((bigSep_insert (by decide)).trans (congrArg (fun z : sProp 𝕄 => iprop(Φ 2 ∗ z)) bigSep_singleton)))))

/-- The three masks one after the other. -/
abbrev all3 : Finset (Fin 3) := insert 0 (insert 1 (insert 2 ∅))

/-- At the launch a device owes every copy and three units to each barrier. -/
theorem O₀_eq (c : Dev nD) : O₀ c = owing c (left 0) all3 all3 := by
  unfold O₀; rw [left_zero, show (Finset.univ : Finset (Fin 3)) = all3 by decide]

/-- With the partner's slot, what device c carries for a copy is complete. -/
theorem outbox_one (c : Dev nD) (x : Tr) :
    iprop(tokens (F := F) c x ∗ some (pr c x.1.val x.2) (rView x.1 x.2) ∗ reached ER (recvCell (pr c x.1.val x.2) x.1 x.2) 0)
      ⊢ (outbox (F := F) c x : sProp 𝕄) := by
  unfold tokens outbox
  iintro ⟨⟨H1, H2, H3⟩, H4, H5⟩
  isplitl [H1]; · iexact H1
  isplitl [H2]; · iexact H2
  isplitl [H3]; · iexact H3
  isplitl [H4]; · iexact H4
  iexact H5

/-- With all the partners' slots, what device c carries for its copies is complete. -/
theorem outbox_of (c : Dev nD) :
    iprop(bigSep Finset.univ (tokens (F := F) c)
        ∗ bigSep Finset.univ (fun x : Tr => iprop(some (pr c x.1.val x.2) (rView x.1 x.2) ∗ reached ER (recvCell (pr c x.1.val x.2) x.1 x.2) 0)))
      ⊢ (bigSep (left 0) (outbox (F := F) c) : sProp 𝕄) := by
  rw [left_zero]
  exact (Entails.of_eq (bigSep_sep' Finset.univ (tokens (F := F) c)
    (fun x : Tr => iprop(some (pr c x.1.val x.2) (rView x.1 x.2) ∗ reached ER (recvCell (pr c x.1.val x.2) x.1 x.2) 0))).symm).trans
    (bigSep_mono fun x _ => outbox_one c x)

/-- The own slots, free, with word that their cells are open. -/
theorem offer (c : Dev nD) :
    iprop(bigSep Finset.univ (fun x : Tr => some c (rView x.1 x.2)) ∗ bigSep Finset.univ (fun x : Tr => reached ER (recvCell c x.1 x.2) 0))
      ⊢ (bigSep Finset.univ (offered (F := F) c) : sProp 𝕄) :=
  Entails.of_eq (bigSep_sep' _ _ _).symm

/-- Both slots and both counters of every transfer, apart. -/
theorem over_all (c : Dev nD) :
    (bigSep (past 12) (over (F := F) c) : sProp 𝕄) ⊢ iprop(bigSep Finset.univ (fun x : Tr => some c (rView x.1 x.2))
      ∗ bigSep Finset.univ (fun x : Tr => iprop(semVal (sendCell c x.1 x.2) 0 ∗ semVal (recvCell c x.1 x.2) 0))) := by
  rw [past_twelve]
  exact Entails.of_eq (bigSep_sep' _ _ _)

set_option maxHeartbeats 4000000 in
/-- The body of one device, from every cell open to every counter back at zero: the result window ends with the sum. -/
theorem talk (c : Dev nD) (x : FVec F S256x512 .bf16) (wq : FVec F S512x256 .bf16) (k v : FVec F S2x128x4x64 .bf16) (wo : FVec F S256x512 .bf16)
    (y : FVec F S256x512 .f32) (hP : P c = part x wq k v wo) (W : Waits sig Unit) (Kt : PUnit → sProp 𝕄) :
    iprop((ready P κ c ∗ slots c ∗ staged c x wq k v wo ∗ result c y ∗ owes (c : Thread nD τ) (O₀ c) W)
        ∗ ((finished c ∗ slots c ∗ staged c x wq k v wo ∗ result c (total P c) ∗ ∃ W', owes (c : Thread nD τ) (0 : CellTallies nD τ sig Unit) W') -∗ Kt ⟨⟩))
      ⊢ wp frame (wpE (defs₀ (F := F)) 𝒱₀ c none) Set.univ
        (cc0_body (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_scratch0) (Memref.isWhole_whole _) (Memref.whole cc0_scratch1) (Memref.isWhole_whole _) cc0_scratch2 cc0_scratch3 cc0_scoped0) Kt := by
  obtain ⟨⟨hd1, hd2, hd3⟩, ⟨hd4, hd5, hd6, hd7⟩, ⟨hd8, hd9, hd10, hd11⟩, ⟨hd12, hd13, hd14, hd15⟩, ⟨hd16, hd17, hd18⟩⟩ := devs c
  have hx : ((Memref.whole cc0_stg0_0).access (Rect.unit (s := S256x512) ![0, 0] S256x512.size inb_S256x512_S256x512_0_0)).read (Elt F) x = x :=
    Memref.read_access_unit_zero (Elt F) cc0_stg0_0 (by decide) _ x
  have hwq : ((Memref.whole cc0_stg1_0).access (Rect.unit (s := S512x256) ![0, 0] S512x256.size inb_S512x256_S512x256_0_0)).read (Elt F) wq = wq :=
    Memref.read_access_unit_zero (Elt F) cc0_stg1_0 (by decide) _ wq
  have hwo : ((Memref.whole cc0_stg4_0).access (Rect.unit (s := S256x512) ![0, 0] S256x512.size inb_S256x512_S256x512_0_0)).read (Elt F) wo = wo :=
    Memref.read_access_unit_zero (Elt F) cc0_stg4_0 (by decide) _ wo
  simp only [cc0_body_eq_skeleton]
  unfold cc0_body_skel
  rw [O₀_eq]
  unfold ready staged slots result
  iintro ⟨⟨⟨#HR, #Hlev, ⟨HaB, HcB, HtB⟩, ⟨HaC, HcC, #HrC, HtC⟩, Hin, Htok, #HrR⟩, ⟨Hsend, Hrecv⟩, ⟨Hx, Hwq, Hk, Hv, Hwo⟩, Hy, HO⟩, Hpost⟩
  -- the first part: the query projection and the first head
  rw [k0_part1_eq_skeleton]; unfold k0_part1_skel
  simp only [Prog.lift, Prog.bind_op, Prog.bind_ret, Prog.pure_eq_ret, wp_deviceId]
  iapply (loadWhole c (Memref.whole cc0_stg0_0) _ x) $$ Hx
  iintro Hx
  iapply (loadWhole c (Memref.whole cc0_stg1_0) _ wq) $$ Hwq
  iintro Hwq
  iapply (loadWhole c (Memref.whole cc0_stg2_0) _ k) $$ Hk
  iintro Hk
  iapply (loadWhole c (Memref.whole cc0_stg3_0) _ v) $$ Hv
  iintro Hv
  rw [hx, hwq]
  -- the other heads and the output projection
  rw [k0_part2_eq_skeleton]; unfold k0_part2_skel
  simp only [Prog.lift, Prog.bind_op, Prog.bind_ret, Prog.pure_eq_ret, semSignalWord, semWaitWord]
  iapply (loadWhole c (Memref.whole cc0_stg2_0) _ k) $$ Hk
  iintro Hk
  iapply (loadWhole c (Memref.whole cc0_stg3_0) _ v) $$ Hv
  iintro Hv
  iapply (loadWhole c (Memref.whole cc0_stg2_0) _ k) $$ Hk
  iintro Hk
  iapply (loadWhole c (Memref.whole cc0_stg3_0) _ v) $$ Hv
  iintro Hv
  rw [k0_part3_eq_skeleton]; unfold k0_part3_skel
  simp only [Prog.lift, Prog.bind_op, Prog.bind_ret, Prog.pure_eq_ret, semSignalWord, semWaitWord]
  iapply (loadWhole c (Memref.whole cc0_stg2_0) _ k) $$ Hk
  iintro Hk
  iapply (loadWhole c (Memref.whole cc0_stg3_0) _ v) $$ Hv
  iintro Hv
  iapply (loadWhole c (Memref.whole cc0_stg2_0) _ k) $$ Hk
  iintro Hk
  iapply (loadWhole c (Memref.whole cc0_stg3_0) _ v) $$ Hv
  iintro Hv
  rw [k0_part4_eq_skeleton]; unfold k0_part4_skel
  simp only [Prog.lift, Prog.bind_op, Prog.bind_ret, Prog.pure_eq_ret, semSignalWord, semWaitWord]
  iapply (loadWhole c (Memref.whole cc0_stg2_0) _ k) $$ Hk
  iintro Hk
  iapply (loadWhole c (Memref.whole cc0_stg3_0) _ v) $$ Hv
  iintro Hv
  iapply (loadWhole c (Memref.whole cc0_stg2_0) _ k) $$ Hk
  iintro Hk
  iapply (loadWhole c (Memref.whole cc0_stg3_0) _ v) $$ Hv
  iintro Hv
  rw [k0_part5_eq_skeleton]; unfold k0_part5_skel
  simp only [Prog.lift, Prog.bind_op, Prog.bind_ret, Prog.pure_eq_ret, semSignalWord, semWaitWord]
  iapply (loadWhole c (Memref.whole cc0_stg2_0) _ k) $$ Hk
  iintro Hk
  iapply (loadWhole c (Memref.whole cc0_stg3_0) _ v) $$ Hv
  iintro Hv
  iapply (loadWhole c (Memref.whole cc0_stg4_0) _ wo) $$ Hwo
  iintro Hwo
  rw [hwo]
  generalize hq : k0_pay16 (F := F) _ _ _ _ _ _ _ _ _ _ = q
  obtain rfl : q = P c := hq.symm.trans hP.symm
  clear hq
  rw [k0_part6_eq_skeleton]; unfold k0_part6_skel
  simp only [Prog.lift, Prog.bind_op, Prog.bind_ret, Prog.pure_eq_ret, semSignalWord, semWaitWord]
  -- every partner is told that this device's slots are free, and every partner's word awaited
  ihave Hoff := (offer c) $$ [Hrecv]
  · isplitl [Hrecv]; · iexact Hrecv
    iexact HrR
  ihave Hoff := (Entails.of_eq (by_mask (offered (F := F) c))) $$ Hoff
  icases Hoff with ⟨Ho0, Ho1, Ho2⟩
  ihave HtB := (Entails.of_eq (three (fun k : Fin 3 => dutyTok ER (barCell (px k c)) 0 k))) $$ HtB
  icases HtB with ⟨Ht0, Ht1, Ht2⟩
  iapply (signalBar P κ c _ 0 hd1 (left 0) (insert 1 (insert 2 ∅)) all3 (by decide) _ 1 rfl) $$ [Ht0 Ho0 HO]
  · isplitr; · iexact HR
    isplitl [Ht0]; · iexact Ht0
    isplitl [Ho0]; · iexact Ho0
    isplitr; · iexact HrC
    iexact HO
  iintro HO
  iapply (signalBar P κ c _ 1 hd2 (left 0) (insert 2 ∅) all3 (by decide) _ 1 rfl) $$ [Ht1 Ho1 HO]
  · isplitr; · iexact HR
    isplitl [Ht1]; · iexact Ht1
    isplitl [Ho1]; · iexact Ho1
    isplitr; · iexact HrC
    iexact HO
  iintro HO
  iapply (signalBar P κ c _ 2 hd3 (left 0) ∅ all3 (by decide) _ 1 rfl) $$ [Ht2 Ho2 HO]
  · isplitr; · iexact HR
    isplitl [Ht2]; · iexact Ht2
    isplitl [Ho2]; · iexact Ho2
    isplitr; · iexact HrC
    iexact HO
  iintro HO
  iapply (waitBar P κ c (left 0) all3 _ 3 rfl) $$ [HcB HaB HO]
  · isplitr; · iexact HR
    isplitr; · iexact Hlev
    isplitl [HcB]; · iexact HcB
    isplitl [HaB]; · iexact HaB
    iexact HO
  iintro ⟨HO, HzB, Hpeer, #HrP⟩
  ihave Hout := (outbox_of c) $$ [Htok Hpeer]
  · isplitl [Htok]; · iexact Htok
    iexact Hpeer
  ihave Hin := (Entails.of_eq (congrArg (fun S => bigSep S (inbox (F := F) c)) left_zero.symm)) $$ Hin
  ihave Hov := (Entails.of_eq (congrArg (fun S => bigSep S (over (F := F) c)) past_zero).symm) $$ []
  · rw [bigSep_empty]; iempintro
  ihave Hsend := (Entails.of_eq (four (fun j => some c (sView j)))) $$ Hsend
  icases Hsend with ⟨Hs0, Hs1, Hs2, Hs3⟩
  -- the first round
  iapply (put c 0 (k0_pay21 (P c)) (sent P c 0 0) (shapeCast_shapeCast _ _ _)) $$ Hs0
  iintro Hs0
  iapply (start P κ c 0 0 0 1 (by decide) rfl ∅ all3 _ _ hd4) $$ [Hs0 Hout HO]
  · isplitr; · iexact HR
    isplitl [Hs0]; · iexact Hs0
    isplitl [Hout]; · iexact Hout
    iexact HO
  iintro ⟨Hc0, Hout, HO⟩
  rw [k0_part7_eq_skeleton]; unfold k0_part7_skel
  simp only [Prog.lift, Prog.bind_op, Prog.bind_ret, Prog.pure_eq_ret, semSignalWord, semWaitWord]
  iapply (put c 1 (k0_pay23 (k0_pay22 (P c))) (sent P c 0 1) (shapeCast_shapeCast _ _ _)) $$ Hs1
  iintro Hs1
  iapply (start P κ c 0 1 1 2 (by decide) rfl ∅ all3 _ _ hd5) $$ [Hs1 Hout HO]
  · isplitr; · iexact HR
    isplitl [Hs1]; · iexact Hs1
    isplitl [Hout]; · iexact Hout
    iexact HO
  iintro ⟨Hc1, Hout, HO⟩
  iapply (put c 2 (k0_pay24 (k0_pay19 (P c))) (sent P c 0 2) (shapeCast_shapeCast _ _ _)) $$ Hs2
  iintro Hs2
  rw [k0_part8_eq_skeleton]; unfold k0_part8_skel
  simp only [Prog.lift, Prog.bind_op, Prog.bind_ret, Prog.pure_eq_ret, semSignalWord, semWaitWord]
  iapply (start P κ c 0 2 2 3 (by decide) rfl ∅ all3 _ _ hd6) $$ [Hs2 Hout HO]
  · isplitr; · iexact HR
    isplitl [Hs2]; · iexact Hs2
    isplitl [Hout]; · iexact Hout
    iexact HO
  iintro ⟨Hc2, Hout, HO⟩
  iapply (put c 3 (k0_pay25 (k0_pay20 (P c))) (sent P c 0 3) (shapeCast_shapeCast _ _ _)) $$ Hs3
  iintro Hs3
  iapply (start P κ c 0 3 3 4 (by decide) rfl ∅ all3 _ _ hd7) $$ [Hs3 Hout HO]
  · isplitr; · iexact HR
    isplitl [Hs3]; · iexact Hs3
    isplitl [Hout]; · iexact Hout
    iexact HO
  iintro ⟨Hc3, Hout, HO⟩
  -- the second round, chunk by chunk
  rw [k0_part9_eq_skeleton]; unfold k0_part9_skel
  simp only [Prog.lift, Prog.bind_op, Prog.bind_ret, Prog.pure_eq_ret, semSignalWord, semWaitWord]
  iapply (take P κ c 0 0 0 1 (by decide) rfl (left 4) all3 (by decide) _) $$ [Hc0 Hin Hov HO]
  · isplitr; · iexact HR
    isplitr; · iexact Hlev
    isplitl [Hc0]; · iexact Hc0
    isplitl [Hin]; · iexact Hin
    isplitl [Hov]; · iexact Hov
    iexact HO
  iintro ⟨Hs0, Hin, Hov, HO⟩
  iapply (put c 0 (k0_pay27 (k0_pay17 (P c)) (landed P c 0 0)) (sent P c 1 0) (shapeCast_shapeCast _ _ _)) $$ Hs0
  iintro Hs0
  rw [k0_part10_eq_skeleton]; unfold k0_part10_skel
  simp only [Prog.lift, Prog.bind_op, Prog.bind_ret, Prog.pure_eq_ret, semSignalWord, semWaitWord]
  iapply (start P κ c 1 0 4 5 (by decide) rfl ∅ all3 _ _ hd8) $$ [Hs0 Hout HO]
  · isplitr; · iexact HR
    isplitl [Hs0]; · iexact Hs0
    isplitl [Hout]; · iexact Hout
    iexact HO
  iintro ⟨Hc0, Hout, HO⟩
  iapply (take P κ c 0 1 1 2 (by decide) rfl (left 5) all3 (by decide) _) $$ [Hc1 Hin Hov HO]
  · isplitr; · iexact HR
    isplitr; · iexact Hlev
    isplitl [Hc1]; · iexact Hc1
    isplitl [Hin]; · iexact Hin
    isplitl [Hov]; · iexact Hov
    iexact HO
  iintro ⟨Hs1, Hin, Hov, HO⟩
  iapply (put c 1 (k0_pay29 (k0_pay18 (P c)) (landed P c 0 1)) (sent P c 1 1) (shapeCast_shapeCast _ _ _)) $$ Hs1
  iintro Hs1
  rw [k0_part11_eq_skeleton]; unfold k0_part11_skel
  simp only [Prog.lift, Prog.bind_op, Prog.bind_ret, Prog.pure_eq_ret, semSignalWord, semWaitWord]
  iapply (start P κ c 1 1 5 6 (by decide) rfl ∅ all3 _ _ hd9) $$ [Hs1 Hout HO]
  · isplitr; · iexact HR
    isplitl [Hs1]; · iexact Hs1
    isplitl [Hout]; · iexact Hout
    iexact HO
  iintro ⟨Hc1, Hout, HO⟩
  rw [k0_part12_eq_skeleton]; unfold k0_part12_skel
  simp only [Prog.lift, Prog.bind_op, Prog.bind_ret, Prog.pure_eq_ret, semSignalWord, semWaitWord]
  iapply (take P κ c 0 2 2 3 (by decide) rfl (left 6) all3 (by decide) _) $$ [Hc2 Hin Hov HO]
  · isplitr; · iexact HR
    isplitr; · iexact Hlev
    isplitl [Hc2]; · iexact Hc2
    isplitl [Hin]; · iexact Hin
    isplitl [Hov]; · iexact Hov
    iexact HO
  iintro ⟨Hs2, Hin, Hov, HO⟩
  iapply (put c 2 (k0_pay31 (k0_pay19 (P c)) (landed P c 0 2)) (sent P c 1 2) (shapeCast_shapeCast _ _ _)) $$ Hs2
  iintro Hs2
  iapply (start P κ c 1 2 6 7 (by decide) rfl ∅ all3 _ _ hd10) $$ [Hs2 Hout HO]
  · isplitr; · iexact HR
    isplitl [Hs2]; · iexact Hs2
    isplitl [Hout]; · iexact Hout
    iexact HO
  iintro ⟨Hc2, Hout, HO⟩
  rw [k0_part13_eq_skeleton]; unfold k0_part13_skel
  simp only [Prog.lift, Prog.bind_op, Prog.bind_ret, Prog.pure_eq_ret, semSignalWord, semWaitWord]
  iapply (take P κ c 0 3 3 4 (by decide) rfl (left 7) all3 (by decide) _) $$ [Hc3 Hin Hov HO]
  · isplitr; · iexact HR
    isplitr; · iexact Hlev
    isplitl [Hc3]; · iexact Hc3
    isplitl [Hin]; · iexact Hin
    isplitl [Hov]; · iexact Hov
    iexact HO
  iintro ⟨Hs3, Hin, Hov, HO⟩
  iapply (put c 3 (k0_pay33 (k0_pay20 (P c)) (landed P c 0 3)) (sent P c 1 3) (shapeCast_shapeCast _ _ _)) $$ Hs3
  iintro Hs3
  rw [k0_part14_eq_skeleton]; unfold k0_part14_skel
  simp only [Prog.lift, Prog.bind_op, Prog.bind_ret, Prog.pure_eq_ret, semSignalWord, semWaitWord]
  iapply (start P κ c 1 3 7 8 (by decide) rfl ∅ all3 _ _ hd11) $$ [Hs3 Hout HO]
  · isplitr; · iexact HR
    isplitl [Hs3]; · iexact Hs3
    isplitl [Hout]; · iexact Hout
    iexact HO
  iintro ⟨Hc3, Hout, HO⟩
  -- the third round, chunk by chunk
  iapply (take P κ c 1 0 4 5 (by decide) rfl (left 8) all3 (by decide) _) $$ [Hc0 Hin Hov HO]
  · isplitr; · iexact HR
    isplitr; · iexact Hlev
    isplitl [Hc0]; · iexact Hc0
    isplitl [Hin]; · iexact Hin
    isplitl [Hov]; · iexact Hov
    iexact HO
  iintro ⟨Hs0, Hin, Hov, HO⟩
  rw [k0_part15_eq_skeleton]; unfold k0_part15_skel
  simp only [Prog.lift, Prog.bind_op, Prog.bind_ret, Prog.pure_eq_ret, semSignalWord, semWaitWord]
  iapply (put c 0 (k0_pay36 (k0_pay26 (k0_pay17 (P c)) (landed P c 0 0)) (k0_pay34 (landed P c 1 0))) (sent P c 2 0) (shapeCast_shapeCast _ _ _)) $$ Hs0
  iintro Hs0
  iapply (start P κ c 2 0 8 9 (by decide) rfl ∅ all3 _ _ hd12) $$ [Hs0 Hout HO]
  · isplitr; · iexact HR
    isplitl [Hs0]; · iexact Hs0
    isplitl [Hout]; · iexact Hout
    iexact HO
  iintro ⟨Hc0, Hout, HO⟩
  rw [k0_part16_eq_skeleton]; unfold k0_part16_skel
  simp only [Prog.lift, Prog.bind_op, Prog.bind_ret, Prog.pure_eq_ret, semSignalWord, semWaitWord]
  iapply (take P κ c 1 1 5 6 (by decide) rfl (left 9) all3 (by decide) _) $$ [Hc1 Hin Hov HO]
  · isplitr; · iexact HR
    isplitr; · iexact Hlev
    isplitl [Hc1]; · iexact Hc1
    isplitl [Hin]; · iexact Hin
    isplitl [Hov]; · iexact Hov
    iexact HO
  iintro ⟨Hs1, Hin, Hov, HO⟩
  iapply (put c 1 (k0_pay38 (k0_pay28 (k0_pay18 (P c)) (landed P c 0 1)) (landed P c 1 1)) (sent P c 2 1) (shapeCast_shapeCast _ _ _)) $$ Hs1
  iintro Hs1
  iapply (start P κ c 2 1 9 10 (by decide) rfl ∅ all3 _ _ hd13) $$ [Hs1 Hout HO]
  · isplitr; · iexact HR
    isplitl [Hs1]; · iexact Hs1
    isplitl [Hout]; · iexact Hout
    iexact HO
  iintro ⟨Hc1, Hout, HO⟩
  rw [k0_part17_eq_skeleton]; unfold k0_part17_skel
  simp only [Prog.lift, Prog.bind_op, Prog.bind_ret, Prog.pure_eq_ret, semSignalWord, semWaitWord]
  iapply (take P κ c 1 2 6 7 (by decide) rfl (left 10) all3 (by decide) _) $$ [Hc2 Hin Hov HO]
  · isplitr; · iexact HR
    isplitr; · iexact Hlev
    isplitl [Hc2]; · iexact Hc2
    isplitl [Hin]; · iexact Hin
    isplitl [Hov]; · iexact Hov
    iexact HO
  iintro ⟨Hs2, Hin, Hov, HO⟩
  iapply (put c 2 (k0_pay40 (k0_pay30 (k0_pay19 (P c)) (landed P c 0 2)) (landed P c 1 2)) (sent P c 2 2) (shapeCast_shapeCast _ _ _)) $$ Hs2
  iintro Hs2
  rw [k0_part18_eq_skeleton]; unfold k0_part18_skel
  simp only [Prog.lift, Prog.bind_op, Prog.bind_ret, Prog.pure_eq_ret, semSignalWord, semWaitWord]
  iapply (start P κ c 2 2 10 11 (by decide) rfl ∅ all3 _ _ hd14) $$ [Hs2 Hout HO]
  · isplitr; · iexact HR
    isplitl [Hs2]; · iexact Hs2
    isplitl [Hout]; · iexact Hout
    iexact HO
  iintro ⟨Hc2, Hout, HO⟩
  rw [k0_part19_eq_skeleton]; unfold k0_part19_skel
  simp only [Prog.lift, Prog.bind_op, Prog.bind_ret, Prog.pure_eq_ret, semSignalWord, semWaitWord]
  iapply (take P κ c 1 3 7 8 (by decide) rfl (left 11) all3 (by decide) _) $$ [Hc3 Hin Hov HO]
  · isplitr; · iexact HR
    isplitr; · iexact Hlev
    isplitl [Hc3]; · iexact Hc3
    isplitl [Hin]; · iexact Hin
    isplitl [Hov]; · iexact Hov
    iexact HO
  iintro ⟨Hs3, Hin, Hov, HO⟩
  iapply (put c 3 (k0_pay42 (k0_pay32 (k0_pay20 (P c)) (landed P c 0 3)) (landed P c 1 3)) (sent P c 2 3) (shapeCast_shapeCast _ _ _)) $$ Hs3
  iintro Hs3
  iapply (start P κ c 2 3 11 12 (by decide) rfl ∅ all3 _ _ hd15) $$ [Hs3 Hout HO]
  · isplitr; · iexact HR
    isplitl [Hs3]; · iexact Hs3
    isplitl [Hout]; · iexact Hout
    iexact HO
  iintro ⟨Hc3, Hout, HO⟩
  -- the sums, chunk by chunk
  rw [k0_part20_eq_skeleton]; unfold k0_part20_skel
  simp only [Prog.lift, Prog.bind_op, Prog.bind_ret, Prog.pure_eq_ret, semSignalWord, semWaitWord]
  iapply (take P κ c 2 0 8 9 (by decide) rfl (left 12) all3 (by decide) _) $$ [Hc0 Hin Hov HO]
  · isplitr; · iexact HR
    isplitr; · iexact Hlev
    isplitl [Hc0]; · iexact Hc0
    isplitl [Hin]; · iexact Hin
    isplitl [Hov]; · iexact Hov
    iexact HO
  iintro ⟨Hs0, Hin, Hov, HO⟩
  iapply (loadWhole c oB (oRect 0) _) $$ Hy
  iintro Hy
  iapply (storeWhole c oB (oRect 0) (acc P 3 c 0) _) $$ Hy
  iintro Hy
  rw [k0_part21_eq_skeleton]; unfold k0_part21_skel
  simp only [Prog.lift, Prog.bind_op, Prog.bind_ret, Prog.pure_eq_ret, semSignalWord, semWaitWord]
  iapply (take P κ c 2 1 9 10 (by decide) rfl (left 12) all3 (by decide) _) $$ [Hc1 Hin Hov HO]
  · isplitr; · iexact HR
    isplitr; · iexact Hlev
    isplitl [Hc1]; · iexact Hc1
    isplitl [Hin]; · iexact Hin
    isplitl [Hov]; · iexact Hov
    iexact HO
  iintro ⟨Hs1, Hin, Hov, HO⟩
  iapply (loadWhole c oB (oRect 1) _) $$ Hy
  iintro Hy
  iapply (storeWhole c oB (oRect 1) (acc P 3 c 1) _) $$ Hy
  iintro Hy
  rw [k0_part22_eq_skeleton]; unfold k0_part22_skel
  simp only [Prog.lift, Prog.bind_op, Prog.bind_ret, Prog.pure_eq_ret, semSignalWord, semWaitWord]
  iapply (take P κ c 2 2 10 11 (by decide) rfl (left 12) all3 (by decide) _) $$ [Hc2 Hin Hov HO]
  · isplitr; · iexact HR
    isplitr; · iexact Hlev
    isplitl [Hc2]; · iexact Hc2
    isplitl [Hin]; · iexact Hin
    isplitl [Hov]; · iexact Hov
    iexact HO
  iintro ⟨Hs2, Hin, Hov, HO⟩
  iapply (loadWhole c oB (oRect 2) _) $$ Hy
  iintro Hy
  iapply (storeWhole c oB (oRect 2) (acc P 3 c 2) _) $$ Hy
  iintro Hy
  iapply (take P κ c 2 3 11 12 (by decide) rfl (left 12) all3 (by decide) _) $$ [Hc3 Hin Hov HO]
  · isplitr; · iexact HR
    isplitr; · iexact Hlev
    isplitl [Hc3]; · iexact Hc3
    isplitl [Hin]; · iexact Hin
    isplitl [Hov]; · iexact Hov
    iexact HO
  iintro ⟨Hs3, Hin, Hov, HO⟩
  iapply (loadWhole c oB (oRect 3) _) $$ Hy
  iintro Hy
  iapply (storeWhole c oB (oRect 3) (acc P 3 c 3) _) $$ Hy
  iintro Hy
  rw [stored_total P c y]
  -- the second barrier
  ihave HtC := (Entails.of_eq (three (fun k : Fin 3 => dutyTok ER (secCell (px k c)) 0 k))) $$ HtC
  icases HtC with ⟨Ht0, Ht1, Ht2⟩
  ihave #HrP := (Entails.of_eq (three (fun k : Fin 3 => reached ER (secCell (px k c)) 0))) $$ HrP
  icases HrP with ⟨#Hr0, #Hr1, #Hr2⟩
  rw [left_twelve]
  iapply (signalSec P κ c _ 0 hd16 ∅ ∅ (insert 1 (insert 2 ∅)) (by decide) _ 1 rfl) $$ [Ht0 HO]
  · isplitr; · iexact HR
    isplitl [Ht0]; · iexact Ht0
    isplitr; · iexact Hr0
    iexact HO
  iintro HO
  iapply (signalSec P κ c _ 1 hd17 ∅ ∅ (insert 2 ∅) (by decide) _ 1 rfl) $$ [Ht1 HO]
  · isplitr; · iexact HR
    isplitl [Ht1]; · iexact Ht1
    isplitr; · iexact Hr1
    iexact HO
  iintro HO
  iapply (signalSec P κ c _ 2 hd18 ∅ ∅ ∅ (by decide) _ 1 rfl) $$ [Ht2 HO]
  · isplitr; · iexact HR
    isplitl [Ht2]; · iexact Ht2
    isplitr; · iexact Hr2
    iexact HO
  iintro HO
  iapply (waitSec P κ c _ 3 rfl) $$ [HcC HaC HO]
  · isplitr; · iexact HR
    isplitl [HcC]; · iexact HcC
    isplitl [HaC]; · iexact HaC
    iexact HO
  iintro ⟨HO, HzC⟩
  rw [wp_ret]
  imodintro
  iapply Hpost
  ihave Hov := (over_all c) $$ Hov
  icases Hov with ⟨Hrecv, Hz⟩
  unfold finished
  isplitl [HzB HzC Hz]
  · isplitl [HzB]; · iexact HzB
    isplitl [HzC]; · iexact HzC
    iexact Hz
  isplitl [Hs0 Hs1 Hs2 Hs3 Hrecv]
  · isplitr [Hrecv]
    · iapply (Entails.of_eq (four (fun j => some c (sView j))).symm)
      isplitl [Hs0]; · iexact Hs0
      isplitl [Hs1]; · iexact Hs1
      isplitl [Hs2]; · iexact Hs2
      iexact Hs3
    · iexact Hrecv
  isplitl [Hx Hwq Hk Hv Hwo]
  · isplitl [Hx]; · iexact Hx
    isplitl [Hwq]; · iexact Hwq
    isplitl [Hk]; · iexact Hk
    isplitl [Hv]; · iexact Hv
    iexact Hwo
  isplitl [Hy]; · iexact Hy
  iexists _; iexact HO

end Cert.KernelIdeal.Butterfly

end
-- ==== Proof.Region.lean ====
module

public import proofs.«01_k».proof.Proof.Talk
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.Regions

@[expose] public section
noncomputable section

namespace Cert.KernelIdeal.Butterfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! The one region of the program: what its windows hold, and the body's obligation from `talk`. -/

/-- What device `c` adds to the sum: its heads' attention on the arrays the host code left. -/
def addend (c : Dev nD) : FVec F S256x512 .f32 :=
  part (V1 m c main_v14) (V1 m c main_arg1) (V1 m c main_v9) (V1 m c main_v13) (V1 m c main_arg4)

/-- What the region leaves in its result array. -/
def outs : Outs (F := F) := fun _ r c =>
  Function.update (V1 m c) (Proc.devRef .tc main_v15) (total (addend m) c) (Proc.devRef .tc r)

/-- The region leaves the sum of the devices' contributions. -/
theorem outs_result (J : ℕ) (c : Dev nD) : outs m J main_v15 c = total (addend m) c := Function.update_self _ _ _

/-- Before the one point. -/
def before0 (c : Dev nD) : sProp 𝕄 := iprop((∃ κ, ready (addend m) κ c) ∗ slots c ∗ ∃ r, prngReg c r)
/-- After it. -/
def after0 (c : Dev nD) : sProp 𝕄 := iprop(finished c ∗ slots c ∗ ∃ r, prngReg c r)

/-- The windows of the region: the arrays they start from, what they hold after the body, and what rides along. -/
def dats (_ : Fin 1) (c : Dev nD) : Dat τ (Elt F) Unit ℕ UU ℕ cfg0 c where
  A w := V1 m c (Proc.devRef .tc (Pipeline.arrRef spec0 w))
  after w _ := match w with
    | ⟨0, _⟩ => V1 m c main_v14
    | ⟨1, _⟩ => V1 m c main_arg1
    | ⟨2, _⟩ => V1 m c main_v9
    | ⟨3, _⟩ => V1 m c main_v13
    | ⟨4, _⟩ => V1 m c main_arg4
    | ⟨5, _⟩ => total (addend m) c
  Φ t := match t with
    | ⟨0, _⟩ => before0 m c
    | ⟨_ + 1, _⟩ => after0 c
  q _ := fullShare
  owed t := match t with
    | ⟨0, _⟩ => O₀ c
    | ⟨_ + 1, _⟩ => 0

/-! Each window's one block is its whole array. -/

/-- The block of window 0 is its whole array. -/
theorem blk0 (f : ((win0_0.blk t0_0).view.ref).ty.Contents (Elt F)) : (win0_0.blk t0_0).view.read (Elt F) f = f := by
  funext i; exact congrArg f (funext fun a => Fin.ext (by fin_cases a <;> (show 0 + 1 * _ = _; exact (Nat.zero_add _).trans (Nat.one_mul _))))

/-- The block of window 1 is its whole array. -/
theorem blk1 (f : ((win0_1.blk t0_0).view.ref).ty.Contents (Elt F)) : (win0_1.blk t0_0).view.read (Elt F) f = f := by
  funext i; exact congrArg f (funext fun a => Fin.ext (by fin_cases a <;> (show 0 + 1 * _ = _; exact (Nat.zero_add _).trans (Nat.one_mul _))))

/-- The block of window 2 is its whole array. -/
theorem blk2 (f : ((win0_2.blk t0_0).view.ref).ty.Contents (Elt F)) : (win0_2.blk t0_0).view.read (Elt F) f = f := by
  funext i; exact congrArg f (funext fun a => Fin.ext (by fin_cases a <;> (show 0 + 1 * _ = _; exact (Nat.zero_add _).trans (Nat.one_mul _))))

/-- The block of window 3 is its whole array. -/
theorem blk3 (f : ((win0_3.blk t0_0).view.ref).ty.Contents (Elt F)) : (win0_3.blk t0_0).view.read (Elt F) f = f := by
  funext i; exact congrArg f (funext fun a => Fin.ext (by fin_cases a <;> (show 0 + 1 * _ = _; exact (Nat.zero_add _).trans (Nat.one_mul _))))

/-- The block of window 4 is its whole array. -/
theorem blk4 (f : ((win0_4.blk t0_0).view.ref).ty.Contents (Elt F)) : (win0_4.blk t0_0).view.read (Elt F) f = f := by
  funext i; exact congrArg f (funext fun a => Fin.ext (by fin_cases a <;> (show 0 + 1 * _ = _; exact (Nat.zero_add _).trans (Nat.one_mul _))))

/-- The block of window 5 is its whole array. -/
theorem blk5 (f : ((win0_5.blk t0_0).view.ref).ty.Contents (Elt F)) : (win0_5.blk t0_0).view.read (Elt F) f = f := by
  funext i; exact congrArg f (funext fun a => Fin.ext (by fin_cases a <;> (show 0 + 1 * _ = _; exact (Nat.zero_add _).trans (Nat.one_mul _))))

/-- Owning a whole buffer that reads X is holding it at X. -/
theorem owns_whole_eq {c : Dev nD} (b : Ref sig .tc) (X : b.ty.Contents (Elt F)) :
    (owns (Ix := Unit) (Name := ℕ) (U := UU) (Lvl := ℕ) (c : Thread nD τ) (Memref.whole b) fullShare X : sProp 𝕄)
      = iprop(∃ f, ⌜f = X⌝ ∗ (Memref.whole b).view.loc (c : Thread nD τ) ↦[Finset.univ]{fullShare} f) := by
  unfold owns
  simp only [Memref.view_whole, View.read_whole, View.set_whole]

/-- Window 0 starts as its array. -/
theorem before_0 (c : Dev nD) (d) : (dats m 0 c).before (0 : Fin 6) t0_0 d = V1 m c main_v14 := by
  unfold Dat.before; rw [if_pos (fetch0_0 t0_0)]; exact blk0 (F := F) (V1 m c main_v14)

/-- Window 1 starts as its array. -/
theorem before_1 (c : Dev nD) (d) : (dats m 0 c).before (1 : Fin 6) t0_0 d = V1 m c main_arg1 := by
  unfold Dat.before; rw [if_pos (fetch0_1 t0_0)]; exact blk1 (F := F) (V1 m c main_arg1)

/-- Window 2 starts as its array. -/
theorem before_2 (c : Dev nD) (d) : (dats m 0 c).before (2 : Fin 6) t0_0 d = V1 m c main_v9 := by
  unfold Dat.before; rw [if_pos (fetch0_2 t0_0)]; exact blk2 (F := F) (V1 m c main_v9)

/-- Window 3 starts as its array. -/
theorem before_3 (c : Dev nD) (d) : (dats m 0 c).before (3 : Fin 6) t0_0 d = V1 m c main_v13 := by
  unfold Dat.before; rw [if_pos (fetch0_3 t0_0)]; exact blk3 (F := F) (V1 m c main_v13)

/-- Window 4 starts as its array. -/
theorem before_4 (c : Dev nD) (d) : (dats m 0 c).before (4 : Fin 6) t0_0 d = V1 m c main_arg4 := by
  unfold Dat.before; rw [if_pos (fetch0_4 t0_0)]; exact blk4 (F := F) (V1 m c main_arg4)

/-- What the body starts from, window by window. -/
def entry (c : Dev nD) : sProp 𝕄 :=
  iprop(before0 m c ∗ (dats m 0 c).owesAt () t0_0.castSucc
    ∗ (∃ d : cc0_stg0_0.ty.Contents (Elt F), owns (c : Thread nD τ) (Memref.whole cc0_stg0_0) fullShare ((dats m 0 c).before (0 : Fin 6) t0_0 d))
    ∗ (∃ d : cc0_stg1_0.ty.Contents (Elt F), owns (c : Thread nD τ) (Memref.whole cc0_stg1_0) fullShare ((dats m 0 c).before (1 : Fin 6) t0_0 d))
    ∗ (∃ d : cc0_stg2_0.ty.Contents (Elt F), owns (c : Thread nD τ) (Memref.whole cc0_stg2_0) fullShare ((dats m 0 c).before (2 : Fin 6) t0_0 d))
    ∗ (∃ d : cc0_stg3_0.ty.Contents (Elt F), owns (c : Thread nD τ) (Memref.whole cc0_stg3_0) fullShare ((dats m 0 c).before (3 : Fin 6) t0_0 d))
    ∗ (∃ d : cc0_stg4_0.ty.Contents (Elt F), owns (c : Thread nD τ) (Memref.whole cc0_stg4_0) fullShare ((dats m 0 c).before (4 : Fin 6) t0_0 d))
    ∗ (∃ d : cc0_stg5_0.ty.Contents (Elt F), owns (c : Thread nD τ) (Memref.whole cc0_stg5_0) fullShare ((dats m 0 c).before (5 : Fin 6) t0_0 d)))

/-- What it leaves. -/
def leaving (c : Dev nD) : sProp 𝕄 :=
  iprop(after0 c ∗ (dats m 0 c).owesAt () t0_0.succ
    ∗ owns (c : Thread nD τ) (Memref.whole cc0_stg0_0) fullShare (V1 m c main_v14)
    ∗ owns (c : Thread nD τ) (Memref.whole cc0_stg1_0) fullShare (V1 m c main_arg1)
    ∗ owns (c : Thread nD τ) (Memref.whole cc0_stg2_0) fullShare (V1 m c main_v9)
    ∗ owns (c : Thread nD τ) (Memref.whole cc0_stg3_0) fullShare (V1 m c main_v13)
    ∗ owns (c : Thread nD τ) (Memref.whole cc0_stg4_0) fullShare (V1 m c main_arg4)
    ∗ owns (c : Thread nD τ) (Memref.whole cc0_stg5_0) fullShare (total (addend m) c))

/-- A whole buffer owned at known contents, both ways. -/
theorem own_elim (c : Dev nD) (b : Ref sig .tc) (X Y : b.ty.Contents (Elt F)) (h : X = Y) :
    (owns (Ix := Unit) (Name := ℕ) (U := UU) (Lvl := ℕ) (c : Thread nD τ) (Memref.whole b) fullShare X : sProp 𝕄)
      ⊢ (Memref.whole b).view.loc (c : Thread nD τ) ↦[Finset.univ]{fullShare} Y := by
  rw [owns_whole_eq, h]; iintro ⟨%f, %hf, H⟩; subst hf; iexact H

/-- A whole buffer held at known contents is owned at them. -/
theorem own_intro (c : Dev nD) (b : Ref sig .tc) (X : b.ty.Contents (Elt F)) :
    ((Memref.whole b).view.loc (c : Thread nD τ) ↦[Finset.univ]{fullShare} X : sProp 𝕄)
      ⊢ owns (Ix := Unit) (Name := ℕ) (U := UU) (Lvl := ℕ) (c : Thread nD τ) (Memref.whole b) fullShare X := by
  rw [owns_whole_eq]; iintro H; iexists X; isplitr; · ipureintro; rfl
  iexact H

/-- What the region says a device owes before the body is what it owes at the launch. -/
theorem owes_in (c : Dev nD) : ((dats m 0 c).owesAt () t0_0.castSucc : sProp 𝕄) ⊢ iprop(∃ W, owes (c : Thread nD τ) (O₀ c) W) := by
  unfold Dat.owesAt Pipeline.owesWithin; rw [show (dats m 0 c).owed t0_0.castSucc = O₀ c from rfl]
  iintro ⟨%W, -, HO⟩; iexists W; iexact HO

/-- A device that owes nothing has paid what the region asks for after the body. -/
theorem owes_out (c : Dev nD) (W) : (owes (c : Thread nD τ) (0 : CellTallies nD τ sig Unit) W : sProp 𝕄) ⊢ (dats m 0 c).owesAt () t0_0.succ := by
  unfold Dat.owesAt Pipeline.owesWithin; rw [show (dats m 0 c).owed t0_0.succ = 0 from rfl]
  iintro HO; iexists W; isplitr; · ipureintro; exact fun _ _ => Or.inl trivial
  iexact HO

/-- The body, window by window. -/
theorem body_run (c : Dev nD) : entry m c ⊢ wp frame (wpE (defs₀ (F := F)) 𝒱₀ c none) Set.univ
    (cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      cc0_scratch2 cc0_scratch3 cc0_scoped0) (fun _ => leaving m c) := by
  unfold entry before0
  iintro ⟨⟨⟨%κ, Hr⟩, Hs, Hp⟩, HO, ⟨%d0, H0⟩, ⟨%d1, H1⟩, ⟨%d2, H2⟩, ⟨%d3, H3⟩, ⟨%d4, H4⟩, ⟨%d5, H5⟩⟩
  ihave HO' := (owes_in m c) $$ HO
  icases HO' with ⟨%W, HO⟩
  ihave H0 := (own_elim c cc0_stg0_0 _ _ (before_0 m c d0)) $$ H0
  ihave H1 := (own_elim c cc0_stg1_0 _ _ (before_1 m c d1)) $$ H1
  ihave H2 := (own_elim c cc0_stg2_0 _ _ (before_2 m c d2)) $$ H2
  ihave H3 := (own_elim c cc0_stg3_0 _ _ (before_3 m c d3)) $$ H3
  ihave H4 := (own_elim c cc0_stg4_0 _ _ (before_4 m c d4)) $$ H4
  ihave H5 := (own_elim c cc0_stg5_0 _ _ rfl) $$ H5
  iapply (talk (addend m) κ c (V1 m c main_v14) (V1 m c main_arg1) (V1 m c main_v9) (V1 m c main_v13) (V1 m c main_arg4) _ rfl W _)
  unfold staged result leaving after0
  isplitr [Hp]
  · isplitl [Hr]; · iexact Hr
    isplitl [Hs]; · iexact Hs
    isplitl [H0 H1 H2 H3 H4]
    · isplitl [H0]; · iexact H0
      isplitl [H1]; · iexact H1
      isplitl [H2]; · iexact H2
      isplitl [H3]; · iexact H3
      iexact H4
    isplitl [H5]; · iexact H5
    iexact HO
  iintro ⟨Hf, Hs, ⟨H0, H1, H2, H3, H4⟩, H5, ⟨%W', HO⟩⟩
  isplitl [Hf Hs Hp]
  · isplitl [Hf]; · iexact Hf
    isplitl [Hs]; · iexact Hs
    iexact Hp
  isplitl [HO]; · iapply (owes_out m c W') $$ HO
  isplitl [H0]; · iapply (own_intro c cc0_stg0_0 _) $$ H0
  isplitl [H1]; · iapply (own_intro c cc0_stg1_0 _) $$ H1
  isplitl [H2]; · iapply (own_intro c cc0_stg2_0 _) $$ H2
  isplitl [H3]; · iapply (own_intro c cc0_stg3_0 _) $$ H3
  isplitl [H4]; · iapply (own_intro c cc0_stg4_0 _) $$ H4
  iapply (own_intro c cc0_stg5_0 _) $$ H5

set_option maxRecDepth 20000 in
/-- The body meets what the region asks of it at its one point. -/
theorem body_obligation (c : Dev nD) : BodyObligation (dats (F := F) m 0 c) (defs₀ (F := F)) 𝒱₀ () Set.univ := fun t => by
  rw [fin_N0 t, bigSep_W0, bigSep_W0]
  exact body_run m c

/-! ## Opening the kernel's own counters -/

/-- Two families at once. -/
theorem both {I : Type} (S : Finset I) (Φ Ψ : I → sProp 𝕄) :
    iprop(bigSep S Φ ∗ bigSep S Ψ) ⊢ bigSep S (fun i => iprop(Φ i ∗ Ψ i)) := Entails.of_eq (bigSep_sep' S Φ Ψ).symm

/-- One family of pairs is two families. -/
theorem both_inv {I : Type} (S : Finset I) (Φ Ψ : I → sProp 𝕄) :
    bigSep S (fun i => iprop(Φ i ∗ Ψ i)) ⊢ iprop(bigSep S Φ ∗ bigSep S Ψ) := Entails.of_eq (bigSep_sep' S Φ Ψ)

/-- The own counters, one by one: the second barrier, then the two of each transfer. -/
theorem own_split (Φ : Own → sProp 𝕄) :
    bigSep Finset.univ Φ = iprop(Φ none ∗ bigSep Finset.univ fun x : Tr => iprop(Φ (Option.some (false, x)) ∗ Φ (Option.some (true, x)))) := by
  have hb : (bigSep Finset.univ fun y : Bool × Tr => Φ (Option.some y))
      = bigSep Finset.univ fun x : Tr => iprop(Φ (Option.some (false, x)) ∗ Φ (Option.some (true, x))) := by
    rw [bigSep_univ_prod, show (Finset.univ : Finset Bool) = {false, true} from by decide, bigSep_insert (by decide), bigSep_singleton]
    exact (bigSep_sep' (Finset.univ : Finset Tr) (fun x => Φ (Option.some (false, x))) (fun x => Φ (Option.some (true, x)))).symm
  have hm : (Finset.univ.erase (none : Own)) = Finset.univ.map (Function.Embedding.some : Bool × Tr ↪ Own) := by
    ext o; cases o <;> simp
  rw [bigSep_univ_at _ (none : Own), hm, bigSep_map, ← hb]; rfl

/-- The tokens and positions that stay with device `c` from the launch. -/
def linear (c : Dev nD) : sProp 𝕄 :=
  iprop(atPos ER (barCell c) 0 ∅ 0 ∗ (bigSep Finset.univ fun k : Fin 3 => dutyTok ER (barCell (px k c)) 0 k)
    ∗ (bigSep Finset.univ fun k : Fin 3 => dutyTok ER (secCell (px k c)) 0 k)
    ∗ (bigSep Finset.univ fun x : Tr => iprop(dutyTok ER (sendCell c x.1 x.2) 0 0 ∗ dutyTok ER (recvCell (pr c x.1.val x.2) x.1 x.2) 0 0))
    ∗ bigSep Finset.univ fun k : Own => openTok ER ((c : Thread nD τ), osem k))

/-- What the other devices owe device `c`. -/
def credits (c : Dev nD) : sProp 𝕄 :=
  iprop(cred (tallyAt (barCell c) () 3) ∗ cred (tallyAt (secCell c) () 3)
    ∗ bigSep Finset.univ fun x : Tr => cred (tallyAt (recvCell c x.1 x.2) () N))

/-- What device `c` brings to the region. -/
def bring (c : Dev nD) : sProp 𝕄 := iprop((∃ κ, records (addend m) κ ∗ linear c) ∗ credits c)

/-- One of the kernel's own counters, opened at zero in its first round. -/
theorem open_one (κ : GSem nD τ sig → ℕ) (c : Dev nD) (k : Own) :
    iprop(records (addend m) κ ∗ openTok ER ((c : Thread nD τ), osem k) ∗ semVal ((c : Thread nD τ), osem k) 0)
      ⊢ (|={Set.univ}=> iprop(atPos ER ((c : Thread nD τ), osem k) 0 ∅ 0 ∗ reached ER ((c : Thread nD τ), osem k) 0) : sProp 𝕄) := by
  iintro ⟨#HR, Ho, Hs⟩
  iapply (Rounds.cell_open ER (sched (addend m)) (g := ((c : Thread nD τ), osem k)) (Set.mem_univ (κ ((c : Thread nD τ), osem k))))
  isplitr; · iapply (inv_of (addend m) κ (own_mem c k)) $$ HR
  isplitl [Ho] <;> iassumption

/-- All of a device's own counters opened. -/
theorem open_all (κ : GSem nD τ sig → ℕ) (c : Dev nD) :
    iprop(records (addend m) κ ∗ (bigSep Finset.univ fun k : Own => openTok ER ((c : Thread nD τ), osem k)) ∗ Pipeline.ownSems0 osem c)
      ⊢ (|={Set.univ}=> bigSep Finset.univ fun k : Own => iprop(atPos ER ((c : Thread nD τ), osem k) 0 ∅ 0 ∗ reached ER ((c : Thread nD τ), osem k) 0) : sProp 𝕄) := by
  unfold Pipeline.ownSems0
  iintro ⟨#HR, Ho, Hs⟩
  iapply bigSep_fupd
  iapply (bigSep_with_persistent (R := records (addend m) κ)
    (Φ := fun k : Own => iprop(openTok ER ((c : Thread nD τ), osem k) ∗ semVal ((c : Thread nD τ), osem k) 0)) fun k _ => open_one m κ c k)
  isplitr; · iexact HR
  iapply (both Finset.univ _ _)
  isplitl [Ho] <;> iassumption

/-- The opened counters, one by one: the second barrier's, then the two of each transfer. -/
theorem own_opened (c : Dev nD) :
    (bigSep Finset.univ fun k : Own => iprop(atPos ER ((c : Thread nD τ), osem k) 0 ∅ 0 ∗ reached ER ((c : Thread nD τ), osem k) 0) : sProp 𝕄)
      ⊢ iprop((atPos ER (secCell c) 0 ∅ 0 ∗ reached ER (secCell c) 0)
        ∗ bigSep Finset.univ fun x : Tr => iprop((atPos ER (sendCell c x.1 x.2) 0 ∅ 0 ∗ reached ER (sendCell c x.1 x.2) 0)
          ∗ (atPos ER (recvCell c x.1 x.2) 0 ∅ 0 ∗ reached ER (recvCell c x.1 x.2) 0))) :=
  Entails.of_eq (own_split fun k : Own => iprop(atPos ER ((c : Thread nD τ), osem k) 0 ∅ 0 ∗ reached ER ((c : Thread nD τ), osem k) 0))

/-- What the region's body starts from, made of what the device brought and the counters at zero. -/
theorem opening (c : Dev nD) : iprop(bring m c ∗ Pipeline.ownSems0 osem c ∗ levAts L lv) ⊢ (|={Set.univ}=> iprop(∃ κ, ready (addend m) κ c) : sProp 𝕄) := by
  unfold bring linear credits
  iintro ⟨⟨⟨%κ, #HR, Hab, Htb, Hts, Htt, Ho⟩, Hcb, Hcs, Hcr⟩, Hs, #HL⟩
  imod (open_all m κ c) $$ [Ho Hs] with H
  · isplitr; · iexact HR
    isplitl [Ho] <;> iassumption
  ihave H := (own_opened c) $$ H
  icases H with ⟨⟨Has, Hrs⟩, H⟩
  have hx : (bigSep Finset.univ fun x : Tr => iprop((atPos ER (sendCell c x.1 x.2) 0 ∅ 0 ∗ reached ER (sendCell c x.1 x.2) 0) ∗ (atPos ER (recvCell c x.1 x.2) 0 ∅ 0 ∗ reached ER (recvCell c x.1 x.2) 0)) : sProp 𝕄)
      ⊢ iprop((bigSep Finset.univ fun x : Tr => iprop(atPos ER (recvCell c x.1 x.2) 0 ∅ 0 ∗ atPos ER (sendCell c x.1 x.2) 0 ∅ 0))
        ∗ (bigSep Finset.univ fun x : Tr => reached ER (sendCell c x.1 x.2) 0) ∗ bigSep Finset.univ fun x : Tr => reached ER (recvCell c x.1 x.2) 0) := by
    rw [← bigSep_sep', ← bigSep_sep']
    refine bigSep_mono fun x _ => ?_
    show iprop((atPos ER (sendCell c x.1 x.2) 0 ∅ 0 ∗ reached ER (sendCell c x.1 x.2) 0) ∗ (atPos ER (recvCell c x.1 x.2) 0 ∅ 0 ∗ reached ER (recvCell c x.1 x.2) 0))
      ⊢ iprop((atPos ER (recvCell c x.1 x.2) 0 ∅ 0 ∗ atPos ER (sendCell c x.1 x.2) 0 ∅ 0) ∗ reached ER (sendCell c x.1 x.2) 0 ∗ reached ER (recvCell c x.1 x.2) 0)
    iintro ⟨⟨H1, H2⟩, H3, H4⟩
    isplitl [H1 H3]; · isplitl [H3] <;> iassumption
    isplitl [H2] <;> iassumption
  ihave H := hx $$ H
  icases H with ⟨Hat, Hrn, Hrv⟩
  have ht : (iprop((bigSep Finset.univ fun x : Tr => iprop(dutyTok ER (sendCell c x.1 x.2) 0 0 ∗ dutyTok ER (recvCell (pr c x.1.val x.2) x.1 x.2) 0 0))
      ∗ bigSep Finset.univ fun x : Tr => reached ER (sendCell c x.1 x.2) 0) : sProp 𝕄) ⊢ bigSep Finset.univ (tokens c) := by
    rw [← bigSep_sep']
    refine bigSep_mono fun x _ => ?_
    show iprop((dutyTok ER (sendCell c x.1 x.2) 0 0 ∗ dutyTok ER (recvCell (pr c x.1.val x.2) x.1 x.2) 0 0) ∗ reached ER (sendCell c x.1 x.2) 0) ⊢ tokens c x
    unfold tokens
    iintro ⟨⟨H1, H2⟩, H3⟩
    isplitl [H1]; · iexact H1
    isplitl [H3] <;> iassumption
  have hi : (iprop((bigSep Finset.univ fun x : Tr => cred (tallyAt (recvCell c x.1 x.2) () N))
      ∗ bigSep Finset.univ fun x : Tr => iprop(atPos ER (recvCell c x.1 x.2) 0 ∅ 0 ∗ atPos ER (sendCell c x.1 x.2) 0 ∅ 0)) : sProp 𝕄) ⊢ bigSep Finset.univ (inbox c) := by
    rw [← bigSep_sep']
    refine bigSep_mono fun x _ => ?_
    show iprop(cred (tallyAt (recvCell c x.1 x.2) () N) ∗ atPos ER (recvCell c x.1 x.2) 0 ∅ 0 ∗ atPos ER (sendCell c x.1 x.2) 0 ∅ 0) ⊢ inbox c x
    unfold inbox
    iintro H; iexact H
  imodintro
  iexists κ
  unfold ready
  isplitr; · iexact HR
  isplitr; · iexact HL
  isplitl [Hab Hcb Htb]
  · isplitl [Hab]; · iexact Hab
    isplitl [Hcb] <;> iassumption
  isplitl [Has Hcs Hrs Hts]
  · isplitl [Has]; · iexact Has
    isplitl [Hcs]; · iexact Hcs
    isplitl [Hrs] <;> iassumption
  isplitl [Hcr Hat]
  · iapply hi
    isplitl [Hcr] <;> iassumption
  isplitl [Htt Hrn]
  · iapply ht
    isplitl [Htt] <;> iassumption
  iexact Hrv

/-! ## The region as a segment -/

/-- The arrays that the region's windows are taken from. -/
abbrev arrs : Finset (DevRef τ sig) := Pipeline.arrRefs (τ := τ) spec0

/-- The other arrays of the program. -/
abbrev others : Finset (DevRef τ sig) := Pipeline.ucRefs τ sig \ arrs

/-- The region's scratch buffers are the slots. -/
theorem slots_in (c : Dev nD) : (Pipeline.scopedRest spec0 c : sProp 𝕄) ⊢ slots c := by
  rw [scopedRest0_eq]; unfold slots
  iintro ⟨Hs, Hr⟩
  isplitl [Hs]
  · iapply (send_split c) $$ Hs
  · iapply (recv_split c) $$ Hr

/-- The slots are the region's scratch buffers again. -/
theorem slots_out (c : Dev nD) : slots c ⊢ (Pipeline.scopedRest spec0 c : sProp 𝕄) := by
  rw [scopedRest0_eq]; unfold slots
  iintro ⟨Hs, Hr⟩
  isplitl [Hs]
  · iapply (send_join c) $$ Hs
  · iapply (recv_join c) $$ Hr

/-- What is held at the region's start is what its body starts from. -/
theorem entering (c : Dev nD) : iprop(Pipeline.scopedRest (Pipeline.pin (pcfgs (F := F)) adm 0).spec c ∗ (∃ r, prngReg c r)
    ∗ StableHlo.held (c.tc : Thread nD τ) ∅ (V1 m c) ∗ ∃ κ, ready (addend m) κ c) ⊢ (dats m 0 c).Φ 0 := by
  show _ ⊢ before0 m c
  unfold before0
  iintro ⟨Hs, Hp, -, Hr⟩
  isplitl [Hr]; · iexact Hr
  isplitl [Hs]; · iapply (slots_in c) $$ Hs
  iexact Hp

/-- What the body leaves is what the region gives back, with the counters at zero. -/
theorem exiting (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ semVal (barCell c) 0) := by
  show after0 c ⊢ _
  unfold after0 finished Pipeline.ownSems0
  iintro ⟨⟨Hb, Hs, Hx⟩, Hsl, Hp⟩
  isplitl [Hsl]; · iapply (slots_out c) $$ Hsl
  isplitl [Hp]; · iexact Hp
  isplitr; · unfold StableHlo.held; rw [bigSep_empty]; iempintro
  isplitl [Hs Hx]
  · iapply (Entails.of_eq (own_split (fun k : Own => (semVal ((c : Thread nD τ), osem k) 0 : sProp 𝕄))).symm)
    isplitl [Hs]; · iexact Hs
    iexact Hx
  iexact Hb

/-- The facts about the region's windows that a launch asks for. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Whatever a device owes is above the level of the windows' own copies. -/
theorem above (c : Dev nD) (t : Fin ((Pipeline.pin (pcfgs (F := F)) adm 0).N + 1)) (g : GSem nD τ sig) (i : Unit)
    (h : 0 < (dats m 0 c).owed t g i) : i ∈ L g ∧ (0 : ℕ) < lv g i := by
  obtain ⟨t, ht⟩ := t
  cases t with
  | zero =>
    rcases owing_pos c Finset.univ Finset.univ Finset.univ g i h with ⟨x, _, rfl⟩ | ⟨k, _, rfl⟩ | ⟨k, _, rfl⟩
    · exact ⟨by rw [L_tc]; exact Finset.mem_singleton_self _, by dsimp only [lv]; rw [role_rcv]; exact Nat.lt_of_lt_of_le Nat.zero_lt_two (Nat.le_add_right _ _)⟩
    · exact ⟨by rw [L_tc]; exact Finset.mem_singleton_self _, by dsimp only [lv]; rw [role_bar]; decide⟩
    · exact ⟨by rw [L_tc]; exact Finset.mem_singleton_self _, by dsimp only [lv]; rw [role_sec]; decide⟩
  | succ n => exact absurd h (Nat.lt_irrefl 0)

/-- The windows' own copies are at the lowest level. -/
theorem stage_level : ∀ (c : Dev nD) (w : Fin 6) (s : Fin (win0 w).nbuf), lv ((c : Thread nD τ), .dma ((win0 w).sem s)) () ≤ 0 := by
  decide

/-- After the region its result array is the sum of the devices' contributions. -/
theorem result_eq (c : Dev nD) : V2 m (outs m) c (Proc.devRef .tc main_v15) = total (addend m) c :=
  (Function.update_self _ _ _).trans (outs_result m 2 c)

/-- The windows' arrays before the region are those that the host code left. -/
theorem arrays_in (c : Dev nD) (w : Fin 6) : (dats m 0 c).arrAt w 0 = V1 m c (Proc.devRef .tc (Pipeline.arrRef spec0 w)) := rfl

/-- The result window is written back as the sum of the devices' contributions. -/
theorem written (c : Dev nD) : (dats m 0 c).arrAt (5 : Fin 6) 1 = total (addend m) c := by
  refine ((dats m 0 c).arrAt_succ (5 : Fin 6) t0_0).trans ?_
  rw [if_pos (flush0_5 t0_0)]
  refine (blk5 (F := F) _).symm.trans ?_
  refine (View.read_write_univ _ _).trans ?_
  rfl

/-- The windows' arrays after the region: the inputs as before, and the result. -/
theorem arrays_out (c : Dev nD) (w : Fin 6) : (dats m 0 c).arrAt w 1 = V2 m (outs m) c (Proc.devRef .tc (Pipeline.arrRef spec0 w)) := by
  fin_cases w
  · exact ((dats m 0 c).arrAt_in (0 : Fin 6) rfl _).trans (V2_of m (outs m) c main_v14 (by decide)).symm
  · exact ((dats m 0 c).arrAt_in (1 : Fin 6) rfl _).trans (V2_of m (outs m) c main_arg1 (by decide)).symm
  · exact ((dats m 0 c).arrAt_in (2 : Fin 6) rfl _).trans (V2_of m (outs m) c main_v9 (by decide)).symm
  · exact ((dats m 0 c).arrAt_in (3 : Fin 6) rfl _).trans (V2_of m (outs m) c main_v13 (by decide)).symm
  · exact ((dats m 0 c).arrAt_in (4 : Fin 6) rfl _).trans (V2_of m (outs m) c main_arg4 (by decide)).symm
  · refine (written m c).trans (result_eq m c).symm

/-- Every window's array is held whole. -/
theorem share_full (c : Dev nD) (w : Fin 6) : (dats m 0 c).share w = fullShare := by unfold Dat.share; split <;> rfl

/-- The region changes no other array. -/
theorem others_same (c : Dev nD) (b) (hb : b ∈ others \ (∅ : Finset (DevRef τ sig))) : V2 m (outs m) c b = V1 m c b :=
  Function.update_of_ne (fun e => (Finset.mem_sdiff.mp (Finset.mem_sdiff.mp hb).1).2 (by rw [e]; exact (by decide : Proc.devRef .tc main_v15 ∈ arrs))) _ _

set_option backward.isDefEq.respectTransparency.types false in
/-- The region, from what the devices bring to the barrier's counter back at zero. -/
def region : Pipeline.RegionSeg (pcfgs (F := F)) adm (dats m) () defs₀ 𝒱₀ L lv 0 :=
  Pipeline.RegionSeg.ofTalk (pcfgs (F := F)) adm (dats m) () defs₀ 𝒱₀ L lv 0 osem (by decide : Pipeline.OwnSemFacts spec0 osem)
    ∅ others (Finset.empty_subset _) kit rfl (fun c => (body_obligation m c).loose)
    (fun _ => 0) O₀ (fun c => (zero_add _).symm) (fun _ => rfl) (fun _ => rfl) (share_full m)
    (V1 m) (V2 m (outs m)) (others_same m)
    (bring m) (fun c => semVal (barCell c) 0) (fun c => iprop(∃ κ, ready (addend m) κ c)) (fun c => semVal (barCell c) 0)
    (opening m) (entering m) (exiting m) (fun c => by iintro H; imodintro; iexact H)
    (fun _ => 0) ⟨fun c w s => by rw [L_tc]; exact Finset.mem_singleton_self _, stage_level, above m⟩
    (fun _ => iprop(emp)) (arrays_in m) (arrays_out m)

end Cert.KernelIdeal.Butterfly

end
-- ==== Proof.Run.lean ====
module

public import proofs.«01_k».proof.Proof.Region

@[expose] public section
noncomputable section

namespace Cert.KernelIdeal.Butterfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! The whole program's run: the cells' invariants and tokens made at the launch, dealt to the devices, and the result read at the end. -/

/-! ## Tokens -/

/-- One device's duties as a payer's list: the two barriers' three each, and every transfer's two. -/
abbrev Duty := (Fin 3 ⊕ Fin 3) ⊕ (Tr ⊕ Tr)

/-- The semaphore and the payer's number of each duty. -/
def dutyAt : Duty → SemLoc sig × Fin 3
  | .inl (.inl k) => (.reg barS, k)
  | .inl (.inr k) => (.reg secS, k)
  | .inr (.inl x) => (.dma (sSem x.1 x.2), 0)
  | .inr (.inr x) => (.dma (rSem x.1 x.2), 0)

/-- Different duties are at different semaphores or have different numbers. -/
theorem dutyAt_inj : Function.Injective dutyAt := by decide

/-- Each device's duties, as entries of the protocol. -/
def dutyEmb : Dev nD × Duty ↪ GSem nD τ sig × ℕ × Fin 3 :=
  ⟨fun y => (((y.1 : Thread nD τ), (dutyAt y.2).1), 0, (dutyAt y.2).2), fun a b h => by
    have h1 : a.1 = b.1 := congrArg (fun t : GSem nD τ sig × ℕ × Fin 3 => t.1.1.1) h
    have h2 : dutyAt a.2 = dutyAt b.2 := Prod.ext (congrArg (fun t : GSem nD τ sig × ℕ × Fin 3 => t.1.2) h)
      (congrArg (fun t : GSem nD τ sig × ℕ × Fin 3 => t.2.2) h)
    exact Prod.ext h1 (dutyAt_inj h2)⟩

/-- All duties of all devices. -/
abbrev duties : Finset (GSem nD τ sig × ℕ × Fin 3) := Finset.univ.map dutyEmb

/-- The partner in a transfer, as a permutation of the devices. -/
def prE (x : Tr) : Dev nD ≃ Dev nD := ⟨fun c => pr c x.1.val x.2, fun c => pr c x.1.val x.2, fun c => pr_pr c _ _, fun c => pr_pr c _ _⟩

/-- A family over devices and an index, moved along a permutation of the devices for each index. -/
theorem moved {I : Type} [Fintype I] (e : I → Dev nD ≃ Dev nD) (Φ : Dev nD → I → sProp 𝕄) :
    (bigSep Finset.univ fun c => bigSep Finset.univ fun i => Φ c i) = bigSep Finset.univ fun c => bigSep Finset.univ fun i => Φ (e i c) i := by
  let e' : Dev nD × I ≃ Dev nD × I :=
    ⟨fun p => (e p.2 p.1, p.2), fun p => ((e p.2).symm p.1, p.2), fun p => by simp, fun p => by simp⟩
  have h := bigSep_univ_equiv e' fun p : Dev nD × I => Φ p.1 p.2
  rw [bigSep_univ_prod, bigSep_univ_prod] at h
  exact h

/-- The tokens of all duties, dealt to the devices that pay them. -/
theorem dealt :
    (bigSep duties fun x => (dutyTok ER x.1 x.2.1 x.2.2 : sProp 𝕄))
      ⊢ bigSep Finset.univ fun c : Dev nD => iprop((bigSep Finset.univ fun k : Fin 3 => dutyTok ER (barCell (px k c)) 0 k)
          ∗ (bigSep Finset.univ fun k : Fin 3 => dutyTok ER (secCell (px k c)) 0 k)
          ∗ bigSep Finset.univ fun x : Tr => iprop(dutyTok ER (sendCell c x.1 x.2) 0 0 ∗ dutyTok ER (recvCell (pr c x.1.val x.2) x.1 x.2) 0 0)) := by
  have h1 : (bigSep duties fun x => (dutyTok ER x.1 x.2.1 x.2.2 : sProp 𝕄))
      = bigSep Finset.univ fun c : Dev nD => bigSep Finset.univ fun d : Duty =>
          (dutyTok ER ((c : Thread nD τ), (dutyAt d).1) 0 (dutyAt d).2 : sProp 𝕄) := by
    rw [bigSep_map, bigSep_univ_prod]; rfl
  have h2 : ∀ c : Dev nD, (bigSep Finset.univ fun d : Duty => (dutyTok ER ((c : Thread nD τ), (dutyAt d).1) 0 (dutyAt d).2 : sProp 𝕄))
      = iprop(((bigSep Finset.univ fun k : Fin 3 => dutyTok ER (barCell c) 0 k) ∗ (bigSep Finset.univ fun k : Fin 3 => dutyTok ER (secCell c) 0 k))
        ∗ (bigSep Finset.univ fun x : Tr => dutyTok ER (sendCell c x.1 x.2) 0 0) ∗ bigSep Finset.univ fun x : Tr => dutyTok ER (recvCell c x.1 x.2) 0 0) := by
    intro c; rw [bigSep_univ_sum, bigSep_univ_sum, bigSep_univ_sum]; rfl
  rw [h1, bigSep_congr fun c _ => h2 c]
  have h3 : ∀ Φ Ψ : Dev nD → sProp 𝕄, (bigSep Finset.univ fun c => iprop(Φ c ∗ Ψ c)) = iprop(bigSep Finset.univ Φ ∗ bigSep Finset.univ Ψ) :=
    fun Φ Ψ => bigSep_sep' _ Φ Ψ
  have h4 : ∀ c : Dev nD, (bigSep Finset.univ fun x : Tr => (iprop(dutyTok ER (sendCell c x.1 x.2) 0 0 ∗ dutyTok ER (recvCell (pr c x.1.val x.2) x.1 x.2) 0 0) : sProp 𝕄))
      = iprop((bigSep Finset.univ fun x : Tr => dutyTok ER (sendCell c x.1 x.2) 0 0) ∗ bigSep Finset.univ fun x : Tr => dutyTok ER (recvCell (pr c x.1.val x.2) x.1 x.2) 0 0) :=
    fun c => bigSep_sep' _ (fun x : Tr => (dutyTok ER (sendCell c x.1 x.2) 0 0 : sProp 𝕄)) _
  simp only [h4, h3]
  rw [moved pxE (fun c k => (dutyTok ER (barCell c) 0 k : sProp 𝕄)), moved pxE (fun c k => (dutyTok ER (secCell c) 0 k : sProp 𝕄)),
    moved prE (fun c x => (dutyTok ER (recvCell c x.1 x.2) 0 0 : sProp 𝕄))]
  iintro ⟨⟨H1, H2⟩, H3, H4⟩
  isplitl [H1]; · iexact H1
  isplitl [H2]; · iexact H2
  isplitl [H3]; · iexact H3
  iexact H4

/-! ## Credits -/

/-- What all devices together owe one counter of device `c`. -/
theorem all_owed (c : Dev nD) (sm : SemLoc sig) : (∑ d : Dev nD, O₀ d ((c : Thread nD τ), sm) ())
    = (∑ x : Tr, if sm = .dma (rSem x.1 x.2) then N else 0) + (∑ _k : Fin 3, if sm = .reg barS then 1 else 0) + ∑ _k : Fin 3, if sm = .reg secS then 1 else 0 := by
  have hc : ∀ (e : Dev nD ≃ Dev nD) (s : SemLoc sig) (n : ℕ),
      (∑ d : Dev nD, (tallyAt ((e d : Thread nD τ), s) () n : CellTallies nD τ sig Unit) ((c : Thread nD τ), sm) ()) = if sm = s then n else 0 := by
    intro e s n
    rw [e.sum_comp fun d => (tallyAt ((d : Thread nD τ), s) () n : CellTallies nD τ sig Unit) ((c : Thread nD τ), sm) (),
      Fintype.sum_eq_single c fun d hd => by
        rw [tallyAt_apply, if_neg]; rintro ⟨h, -⟩; exact hd (congrArg (fun g : GSem nD τ sig => g.1.1) h).symm]
    rw [tallyAt_apply]
    by_cases h : sm = s
    · subst h; rw [if_pos ⟨rfl, rfl⟩, if_pos rfl]
    · rw [if_neg fun e => h (congrArg Prod.snd e.1), if_neg h]
  unfold O₀ owing
  simp only [Pi.add_apply, Finset.sum_apply, Finsupp.add_apply, Finsupp.finset_sum_apply, Finset.sum_add_distrib]
  rw [Finset.sum_comm, Finset.sum_comm (s := (Finset.univ : Finset (Dev nD))) (t := (Finset.univ : Finset (Fin 3))), Finset.sum_comm (s := (Finset.univ : Finset (Dev nD))) (t := (Finset.univ : Finset (Fin 3)))]
  exact congrArg₂ _ (congrArg₂ _ (Finset.sum_congr rfl fun x _ => hc (prE x) _ _) (Finset.sum_congr rfl fun k _ => hc (pxE k) _ _))
    (Finset.sum_congr rfl fun k _ => hc (pxE k) _ _)

/-- What the launch credits a counter with is what all devices owe it. -/
theorem launch_at (c : Dev nD) (sm : SemLoc sig) (n : ℕ) (h : (∑ d : Dev nD, O₀ d ((c : Thread nD τ), sm) ()) = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

/-- The counters the protocol credits: the barrier's and the kernel's own. -/
def ours : Option Own → SemLoc sig
  | none => .reg barS
  | Option.some k => osem k

/-- The credited counters are different semaphores. -/
theorem ours_inj : Function.Injective ours := by
  intro a b h
  cases a with
  | none => cases b with
    | none => rfl
    | some k => exact absurd h.symm (osem_ne_bar k)
  | some k => cases b with
    | none => exact absurd h (osem_ne_bar k)
    | some k' => exact congrArg Option.some (osem_inj h)

/-- The devices owe each barrier three units. -/
theorem owed_bar (c : Dev nD) : (∑ d : Dev nD, O₀ d (barCell c) ()) = 3 := by
  rw [all_owed, Finset.sum_eq_zero fun x _ => if_neg (by exact nofun)]
  rfl

/-- The devices owe each second barrier three units. -/
theorem owed_sec (c : Dev nD) : (∑ d : Dev nD, O₀ d (secCell c) ()) = 3 := by
  rw [all_owed, Finset.sum_eq_zero fun x _ => if_neg (by exact nofun)]
  rfl

/-- The devices owe each receive counter the units of one copy. -/
theorem owed_recv (c : Dev nD) (x : Tr) : (∑ d : Dev nD, O₀ d (recvCell c x.1 x.2) ()) = N := by
  rw [all_owed, Fintype.sum_eq_single x fun y hy => if_neg fun h => hy ?_, if_pos rfl]
  · simp
  · have h' : osem (Option.some (true, x)) = osem (Option.some (true, y)) := h
    exact (congrArg Prod.snd (Option.some.inj (osem_inj h'))).symm

/-- The credits of the launch hold those that the protocol uses. -/
theorem creds (c : Dev nD) : (Pipeline.launchCred O₀ c : sProp 𝕄) ⊢ credits c := by
  unfold Pipeline.launchCred credits
  refine (bigSep_subset (Finset.subset_univ (Finset.univ.map ⟨ours, ours_inj⟩))).trans ?_
  rw [bigSep_map]
  have hn : (Finset.univ.erase (none : Option Own)) = Finset.univ.map (Function.Embedding.some : Own ↪ Option Own) := by
    ext o; cases o <;> simp
  rw [bigSep_univ_at _ (none : Option Own), hn, bigSep_map, own_split]
  refine Idealize.SL.BI.sep_mono (Entails.of_eq (congrArg cred (launch_at c (.reg barS) 3 (owed_bar c)))) ?_
  refine Idealize.SL.BI.sep_mono (Entails.of_eq (congrArg cred (launch_at c (.reg secS) 3 (owed_sec c)))) ?_
  refine bigSep_mono fun x _ => ?_
  show iprop(_ ∗ cred (tallyOn (recvCell c x.1 x.2) (launchCredit (Pipeline.owing O₀) 0 (recvCell c x.1 x.2)))) ⊢ _
  rw [launch_at c (.dma (rSem x.1 x.2)) N (owed_recv c x)]
  iintro ⟨-, H⟩; iexact H

/-! ## The launch -/

/-- The ghost state at the launch. -/
def u₀ : UU :=
  (Rounds.initOf (Pipeline.cells cfgs cellOf_inj) (Pipeline.launchToks cfgs cellOf_inj), launchOf barCells ownCells duties)

/-- The whole launch element kept by device 0 until all devices' holdings are at hand. -/
def kept (c : Dev nD) : sProp 𝕄 := if c = 0 then BI.own (ER (launchOf barCells ownCells duties)) else iprop(emp)

/-- What all devices keep is the one launch element. -/
theorem kept_all : bigSep Finset.univ (kept (F := F)) = BI.own (ER (launchOf barCells ownCells duties)) := by
  rw [bigSep_univ_at _ (0 : Dev nD), bigSep_congr (s := Finset.univ.erase (0 : Dev nD)) (Ψ := fun _ => (BI.emp : sProp 𝕄))
      fun c hc => by unfold kept; rw [if_neg (Finset.ne_of_mem_erase hc)]; rfl, BI.bigSep_emp_const]
  unfold kept; rw [if_pos rfl]
  exact BI.equiv_iff.mp sep_emp

/-- What rides beside the buffers before the region, and after it. -/
def E (J : Fin 2) (c : Dev nD) : sProp 𝕄 := match J with
  | 0 => iprop(bring m c ∗ (∃ r, prngReg c r) ∗ ∃ W, owes (c : Thread nD τ) (O₀ c) W)
  | 1 => iprop(semVal (barCell c) 0 ∗ ∃ W, owes (c : Thread nD τ) (0 : CellTallies nD τ sig Unit) W)

/-- The one counter that outlives the region is the barrier's. -/
theorem unscoped_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- One device's share of the launch, but for the protocol's records. -/
def share (c : Dev nD) : sProp 𝕄 :=
  iprop(linear c ∗ credits c ∗ (∃ r, prngReg c r) ∗ owes (c : Thread nD τ) (O₀ c) ∅)

/-- A device's share with the records is what it brings to the region. -/
theorem share_out (κ : GSem nD τ sig → ℕ) (c : Dev nD) : iprop(records (addend m) κ ∗ share c) ⊢ E m 0 c := by
  unfold share E bring
  iintro ⟨#HR, Hl, Hc, Hp, HO⟩
  isplitl [Hl Hc]
  · isplitl [Hl]
    · iexists κ; isplitr; · iexact HR
      iexact Hl
    iexact Hc
  isplitl [Hp]; · iexact Hp
  iexists ∅; iexact HO

/-- From the launch's resources every device gets what it brings to the region. -/
theorem launched :
    iprop((bigSep Finset.univ fun c : Dev nD => iprop(unscopedSems0 c ∗ owes (c : Thread nD τ) (O₀ c) ∅ ∗ Pipeline.launchCred O₀ c
        ∗ prngReg c (ρ c) ∗ kept c)) ∗ levAts L lv) ⊢ (|={Set.univ}=> bigSep Finset.univ (E m 0) : sProp 𝕄) := by
  have h0 : (bigSep Finset.univ fun c : Dev nD => iprop(unscopedSems0 c ∗ owes (c : Thread nD τ) (O₀ c) ∅ ∗ Pipeline.launchCred O₀ c
        ∗ prngReg c (ρ c) ∗ kept c) : sProp 𝕄)
      ⊢ iprop((bigSep Finset.univ fun c : Dev nD => semVal (barCell c) 0) ∗ bigSep Finset.univ (kept (F := F))
        ∗ bigSep Finset.univ fun c : Dev nD => iprop(credits c ∗ (∃ r, prngReg c r) ∗ owes (c : Thread nD τ) (O₀ c) ∅)) := by
    rw [← bigSep_sep', ← bigSep_sep']
    refine bigSep_mono fun c _ => ?_
    show iprop(unscopedSems0 c ∗ owes (c : Thread nD τ) (O₀ c) ∅ ∗ Pipeline.launchCred O₀ c ∗ prngReg c (ρ c) ∗ kept c)
      ⊢ iprop(semVal (barCell c) 0 ∗ kept c ∗ credits c ∗ (∃ r, prngReg c r) ∗ owes (c : Thread nD τ) (O₀ c) ∅)
    rw [unscoped_bar]
    iintro ⟨Hs, HO, Hc, Hp, Hk⟩
    isplitl [Hs]; · iexact Hs
    isplitl [Hk]; · iexact Hk
    isplitl [Hc]; · iapply (creds c) $$ Hc
    isplitl [Hp]; · iexists (ρ c); iexact Hp
    iexact HO
  have hv : (bigSep Finset.univ fun c : Dev nD => (semVal (barCell c) 0 : sProp 𝕄)) ⊢ bigSep barCells fun g => (semVal g 0 : sProp 𝕄) :=
    Entails.of_eq (bigSep_map (s := Finset.univ) barEmb (Φ := fun g : GSem nD τ sig => (semVal g 0 : sProp 𝕄))).symm
  have ha : (bigSep barCells fun g => (atPos ER g 0 ∅ 0 : sProp 𝕄)) ⊢ bigSep Finset.univ fun c : Dev nD => (atPos ER (barCell c) 0 ∅ 0 : sProp 𝕄) :=
    Entails.of_eq (bigSep_map (s := Finset.univ) barEmb (Φ := fun g : GSem nD τ sig => (atPos ER g 0 ∅ 0 : sProp 𝕄)))
  have ho : (bigSep ownCells fun g => (openTok ER g : sProp 𝕄))
      ⊢ bigSep Finset.univ fun c : Dev nD => bigSep Finset.univ fun k : Own => (openTok ER ((c : Thread nD τ), osem k) : sProp 𝕄) :=
    Entails.of_eq (by rw [bigSep_map, bigSep_univ_prod]; rfl)
  have hs : (iprop((bigSep Finset.univ fun c : Dev nD => atPos ER (barCell c) 0 ∅ 0)
        ∗ (bigSep Finset.univ fun c : Dev nD => iprop((bigSep Finset.univ fun k : Fin 3 => dutyTok ER (barCell (px k c)) 0 k)
          ∗ (bigSep Finset.univ fun k : Fin 3 => dutyTok ER (secCell (px k c)) 0 k)
          ∗ bigSep Finset.univ fun x : Tr => iprop(dutyTok ER (sendCell c x.1 x.2) 0 0 ∗ dutyTok ER (recvCell (pr c x.1.val x.2) x.1 x.2) 0 0)))
        ∗ (bigSep Finset.univ fun c : Dev nD => bigSep Finset.univ fun k : Own => openTok ER ((c : Thread nD τ), osem k))
        ∗ bigSep Finset.univ fun c : Dev nD => iprop(credits c ∗ (∃ r, prngReg c r) ∗ owes (c : Thread nD τ) (O₀ c) ∅)) : sProp 𝕄)
      ⊢ bigSep Finset.univ share := by
    rw [← bigSep_sep', ← bigSep_sep', ← bigSep_sep']
    refine bigSep_mono fun c _ => ?_
    show iprop(atPos ER (barCell c) 0 ∅ 0
        ∗ ((bigSep Finset.univ fun k : Fin 3 => dutyTok ER (barCell (px k c)) 0 k)
          ∗ (bigSep Finset.univ fun k : Fin 3 => dutyTok ER (secCell (px k c)) 0 k)
          ∗ bigSep Finset.univ fun x : Tr => iprop(dutyTok ER (sendCell c x.1 x.2) 0 0 ∗ dutyTok ER (recvCell (pr c x.1.val x.2) x.1 x.2) 0 0))
        ∗ (bigSep Finset.univ fun k : Own => openTok ER ((c : Thread nD τ), osem k))
        ∗ credits c ∗ (∃ r, prngReg c r) ∗ owes (c : Thread nD τ) (O₀ c) ∅) ⊢ share c
    unfold share linear
    iintro ⟨H1, ⟨H2, H3, H4⟩, H5, H6⟩
    isplitr [H6]
    · isplitl [H1]; · iexact H1
      isplitl [H2]; · iexact H2
      isplitl [H3]; · iexact H3
      isplitl [H4]; · iexact H4
      iexact H5
    iexact H6
  iintro ⟨H, -⟩
  ihave H := h0 $$ H
  icases H with ⟨Hv, Hk, Hr⟩
  ihave Hk := (Entails.of_eq (kept_all (F := F))) $$ Hk
  imod (Rounds.fund_launch ER (sched (addend m)) disjoint_cells (fun g _ h => h) duties) $$ [Hv Hk] with ⟨%κ, -, #Hinv, #Hr0, Hat, Hop, Htok⟩
  · isplitl [Hv]
    · iapply hv $$ Hv
    · iexact Hk
  imodintro
  iapply (bigSep_with_persistent (R := records (addend m) κ) (Φ := share) fun c _ => share_out m κ c)
  isplitr
  · unfold records
    isplitr; · iexact Hinv
    iexact Hr0
  iapply hs
  isplitl [Hat]; · iapply ha $$ Hat
  isplitl [Htok]; · iapply dealt $$ Htok
  isplitl [Hop]; · iapply ho $$ Hop
  iexact Hr

/-! ## The run -/

/-- The region's arrays are arrays of the program. -/
theorem arrs_sub : arrs ⊆ Pipeline.ucRefs τ sig := by decide

/-- What a device holds after the first host code is what the region starts from. -/
theorem region_pre (c : Dev nD) : iprop(StableHlo.held (c : Thread nD τ) (Pipeline.ucRefs τ sig) (V1 m c) ∗ E m 0 c) ⊢ (region m).pre c := by
  show _ ⊢ iprop(StableHlo.held (c.tc : Thread nD τ) arrs (V1 m c) ∗ (∃ r, prngReg c r)
    ∗ (StableHlo.held (c.tc : Thread nD τ) others (V1 m c) ∗ emp) ∗ bring m c ∗ ∃ Wd, owes (c : Thread nD τ) (0 + O₀ c) Wd)
  rw [StableHlo.held_sub_split (c.tc : Thread nD τ) arrs_sub (V1 m c), zero_add]
  unfold E
  iintro ⟨⟨Ha, Ho⟩, Hb, Hp, HO⟩
  isplitl [Ha]; · iexact Ha
  isplitl [Hp]; · iexact Hp
  isplitl [Ho]
  · isplitl [Ho]; · iexact Ho
    iempintro
  isplitl [Hb]; · iexact Hb
  iexact HO

/-- What the region leaves is what the last host code starts from. -/
theorem region_post (c : Dev nD) : (region m).post c ⊢ iprop(StableHlo.held (c : Thread nD τ) (Pipeline.ucRefs τ sig) (V2 m (outs m) c) ∗ E m 1 c) := by
  show iprop(StableHlo.held (c.tc : Thread nD τ) arrs (V2 m (outs m) c) ∗ (∃ r, prngReg c r)
    ∗ (StableHlo.held (c.tc : Thread nD τ) others (V2 m (outs m) c) ∗ emp) ∗ semVal (barCell c) 0 ∗ ∃ Wd, owes (c : Thread nD τ) (0 : CellTallies nD τ sig Unit) Wd) ⊢ _
  rw [StableHlo.held_sub_split (c.tc : Thread nD τ) arrs_sub (V2 m (outs m) c)]
  unfold E
  iintro ⟨Ha, Hp, ⟨Ho, -⟩, Hb, HO⟩
  isplitl [Ha Ho]
  · isplitl [Ha] <;> iassumption
  isplitl [Hb] <;> iassumption

/-- A counter that outlives the region is the barrier's. -/
theorem unscoped_eq : ∀ sm : SemLoc sig, sm.isScoped .tc = false → sm = .reg barS := by decide

/-- What a final memory of the run holds on device `c`. -/
def Holds (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_v16) = V3 m (outs m) c (Proc.devRef .tc main_v16)

set_option backward.isDefEq.respectTransparency.types false in
/-- Every fair execution of the program on the eight devices terminates; each device's arguments are as launched, its
    result is the last host stretch's on the sum of all devices' addends, and every counter is zero. -/
theorem run_main : θ_run defs (onTc (τ := τ) (main (F := F))) ⟨m, fun _ => 0, ρ⟩
    (fun r => (∀ c : Dev nD, Holds m c r.2) ∧ r.2.sem = fun _ => 0) := by
  refine Pipeline.θ_run_regions_kit_dev_sems (pcfgs (F := F)) adm (dats m) () cellOf_inj EP defs₀ 𝒱₀ L lv m ρ main
    (segs m (outs m) 𝒱₀ L lv (E m) () (dats m) (region m))
    (fun c Q => by
      rewrite [main_chain c, Seg.run_eq_chain,
        show (segs m (outs m) 𝒱₀ L lv (E m) () (dats m) (region m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) O₀ L_of_ne kept u₀
    (by
      unfold u₀
      iintro Hu
      ihave H := (ownU_pair _ _) $$ Hu
      icases H with ⟨HP, HX⟩
      imodintro
      isplitl [HP]; · iexact HP
      rw [kept_all]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V3 m (outs m) c) ∗ semVal (barCell c) 0))
    (hch := fun c => ⟨.rfl, region_pre m c, region_post m c, ?_⟩)
    (hinit := ?_) (QY := fun c s => Holds m c s ∧ s.sem (barCell c) = 0)
    (hfin := fun c s' => ?_) (hQ := fun s h hs => ⟨fun c => (h c).1, sem_eq_zero hs fun c sm hsm => by
      obtain rfl := unscoped_eq sm hsm
      exact (h c).2⟩)
  · show iprop(StableHlo.held (c : Thread nD τ) (Pipeline.ucRefs τ sig) (V3 m (outs m) c)
        ∗ (semVal (barCell c) 0 ∗ ∃ W, owes (c : Thread nD τ) (0 : CellTallies nD τ sig Unit) W)) ⊢ _
    iintro ⟨Hh, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ kept c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ kept c)) : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (launched m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_arg2) (Finset.mem_filter.mpr ⟨StableHlo.devRef_mem_tcRefs main_arg2, by decide⟩)).trans (V3_main_arg2 m (outs m) c),
        (h (Proc.devRef .tc main_arg3) (Finset.mem_filter.mpr ⟨StableHlo.devRef_mem_tcRefs main_arg3, by decide⟩)).trans (V3_main_arg3 m (outs m) c),
        (h (Proc.devRef .tc main_arg4) (Finset.mem_filter.mpr ⟨StableHlo.devRef_mem_tcRefs main_arg4, by decide⟩)).trans (V3_main_arg4 m (outs m) c),
        h (Proc.devRef .tc main_v16) (Finset.mem_filter.mpr ⟨StableHlo.devRef_mem_tcRefs main_v16, by decide⟩)⟩, by simpa using hb⟩
    · iexact HSI

end Cert.KernelIdeal.Butterfly

end
-- ==== Proof.Attend.lean ====
/-
  Attention over the reals, for one query of one head, and the summands of one element of the result.
-/
module

public import Idealize.ShloMosaic.Lib.Pointwise

@[expose] public section

noncomputable section

namespace Cert.Attention

open Idealize.ShloMosaic

/-- The scaled score of a query against key j. -/
def scaled (q : Fin 64 → EReal) (K : Fin 128 → Fin 64 → EReal) (j : Fin 128) : EReal :=
  (∑ e, q e * K j e) * Ideal.ofBits .f32 0x3E000000#32

/-- The exponential of the score against key j, less the largest score. -/
def grown (q : Fin 64 → EReal) (K : Fin 128 → Fin 64 → EReal) (j : Fin 128) : EReal :=
  Ideal.exp (scaled q K j - Finset.fold max (Ideal.ofBits .f32 0xFF800000#32) (scaled q K) Finset.univ)

/-- One component of one query's attention: the keys' values V, weighted by the normalised exponentials. -/
def attend (q : Fin 64 → EReal) (K : Fin 128 → Fin 64 → EReal) (V : Fin 128 → EReal) : EReal :=
  ∑ j, Ideal.div (grown q K j) (∑ i, grown q K i) * V j

/-- Summand u of element (b, s, n) of the result: component u mod 64 of head u / 64, times its weight in the output projection. -/
def summand (X : FVec Ideal ⟨3, ![2, 128, 512]⟩ .bf16) (Wq : FVec Ideal ⟨2, ![512, 2048]⟩ .bf16) (K V : FVec Ideal ⟨4, ![2, 128, 32, 64]⟩ .bf16)
    (Wo : FVec Ideal ⟨2, ![2048, 512]⟩ .bf16) (b : Fin 2) (s : Fin 128) (n : Fin 512) (u : Fin 2048) : EReal :=
  attend (fun e => ∑ c : Fin 512, (X (ix3 b s c) : EReal) * (Wq (ix2 c ⟨u.val / 64 * 64 + e.val, by omega⟩) : EReal))
    (fun j e => K (ix4 b j ⟨u.val / 64, by omega⟩ e)) (fun j => V (ix4 b j ⟨u.val / 64, by omega⟩ ⟨u.val % 64, by omega⟩)) * (Wo (ix2 u n) : EReal)

end Cert.Attention

end
-- ==== Proof.Heads.lean ====
/-
  One device's contribution over the reals, element by element: four heads of attention, joined side by side,
  through the device's rows of the output projection.
-/
module

public import proofs.«01_k».proof.Proof.Body
public import proofs.«01_k».proof.Proof.Attend

@[expose] public section

noncomputable section

namespace Cert.KernelIdeal.Butterfly

open Idealize.ShloMosaic Idealize.ShloMosaic.TcCoe
open Cert.KernelIdeal Cert.KernelIdeal.Gen

/-! ## The device's contribution as one product over joined heads -/

section Vectors

variable {F : FTy → Type} [FloatOps F]

/-- Head h of batch b is a block of the staged arrays. -/
theorem head_fits (b : Fin 2) (h : Fin 4) : S2x128x4x64.Slices ![b.val, 0, h.val, 0] S1x128x1x64 := by revert b h; decide

/-- One head of the projected queries. -/
def headQ (Q : FVec F S2x128x4x64 .bf16) (b : Fin 2) (h : Fin 4) : FVec F S128x64 .bf16 :=
  shapeCast S128x64 (extractStridedSlice S1x128x1x64 ![b.val, 0, h.val, 0] Q (head_fits b h)) shapeCasts_S1x128x1x64_S128x64

/-- The scaled scores of one head. -/
def score (q : FVec F S128x64 .bf16) (k : FVec F S1x128x1x64 .bf16) : FVec F S128x128 .f32 :=
  mulf (matmul dot_S128x64_S128x64_S128x128_1_1_0_0_n_n none q (shapeCast S128x64 k shapeCasts_S1x128x1x64_S128x64) (constant S128x128 .f32 0x00000000#32))
    (broadcast S128x128 (Scalar.ofBits .f32 0x3E000000#32))

/-- The exponentials of a head's scores, each row less its maximum. -/
def expo (s : FVec F S128x128 .f32) : FVec F S128x128 .f32 :=
  exp (subf s (broadcastTo S128x128 (shapeCast S128x1 (multiReduction .maximumf [1] S128 s 0xFF800000#32 reduces_S128x128_S128 (.inl rfl) rfl)
    shapeCasts_S128_S128x1) broadcasts_S128x1_S128x128))

/-- The attention weights of a head: each row of exponentials over its sum. -/
def weight (e : FVec F S128x128 .f32) : FVec F S128x128 .f32 :=
  divf e (broadcastTo S128x128 (shapeCast S128x1 (multiReduction .add [1] S128 e 0x00000000#32 reduces_S128x128_S128 (.inl rfl) rfl)
    shapeCasts_S128_S128x1) broadcasts_S128x1_S128x128)

/-- One head of attention. -/
def headOut (q : FVec F S128x64 .bf16) (k v : FVec F S1x128x1x64 .bf16) : FVec F S128x64 .f32 :=
  matmul dot_S128x128_S128x64_S128x64_1_0_0_1_n_n none (truncf .bf16 (weight (expo (score q k))) bitsLt_bf16_f32)
    (shapeCast S128x64 v shapeCasts_S1x128x1x64_S128x64) (constant S128x64 .f32 0x00000000#32)

/-- One batch: its four heads side by side. -/
def batchOut (Q : FVec F S2x128x4x64 .bf16) (k v : FVec F S2x128x4x64 .bf16) (b : Fin 2) : FVec F S128x256 .f32 :=
  concatenate S128x256 1 [⟨S128x64, headOut (headQ Q b 0) (headK k b 0) (headV v b 0)⟩, ⟨S128x64, headOut (headQ Q b 1) (headK k b 1) (headV v b 1)⟩,
    ⟨S128x64, headOut (headQ Q b 2) (headK k b 2) (headV v b 2)⟩, ⟨S128x64, headOut (headQ Q b 3) (headK k b 3) (headV v b 3)⟩]
    concatenates_S128x64_S128x64_S128x64_S128x64_S128x256_d1

/-- The device's contribution is its two batches, one below the other, through its rows of the output projection. -/
theorem part_eq (x : FVec F S256x512 .bf16) (wq : FVec F S512x256 .bf16) (k v : FVec F S2x128x4x64 .bf16) (wo : FVec F S256x512 .bf16) :
    part x wq k v wo = matmul dot_S256x256_S256x512_S256x512_1_0_0_1_n_n none
      (truncf .bf16 (concatenate S256x256 0 [⟨S128x256, batchOut (k0_pay2 x wq) k v 0⟩, ⟨S128x256, batchOut (k0_pay2 x wq) k v 1⟩]
        concatenates_S128x256_S128x256_S256x256_d0) bitsLt_bf16_f32)
      (shapeCast S256x512 wo shapeCasts_S256x512_S256x512) (constant S256x512 .f32 0x00000000#32) := rfl

end Vectors

/-! ## Element by element -/

set_option maxRecDepth 16384

open Cert.Attention

/-- The queries of one head, element by element. -/
theorem headQ_at (Q : FVec Ideal S2x128x4x64 .bf16) (b : Fin 2) (h : Fin 4) (i : Fin 128) (d : Fin 64) : headQ Q b h (ix2 i d) = Q (ix4 b i h d) := by
  pointwise [headQ]

/-- The keys of one head, element by element. -/
theorem headK_at (k : FVec Ideal S2x128x4x64 .bf16) (b : Fin 2) (h : Fin 4) (j : Fin 128) (d : Fin 64) : headK k b h (ix4 0 j 0 d) = k (ix4 b j h d) := by
  show k _ = k _
  congr 1
  funext a
  apply Fin.ext
  fin_cases a <;> simp [ix4]

/-- The values of one head, element by element. -/
theorem headV_at (v : FVec Ideal S2x128x4x64 .bf16) (b : Fin 2) (h : Fin 4) (j : Fin 128) (d : Fin 64) : headV v b h (ix4 0 j 0 d) = v (ix4 b j h d) := headK_at v b h j d

/-- The projected queries. -/
theorem queries_at (x : FVec Ideal S256x512 .bf16) (wq : FVec Ideal S512x256 .bf16) (b : Fin 2) (s : Fin 128) (h : Fin 4) (d : Fin 64) :
    k0_pay2 (F := Ideal) x wq (ix4 b s h d)
      = ∑ c : Fin 512, (x (ix2 ⟨b.val * 128 + s.val, by omega⟩ c) : EReal) * (wq (ix2 c ⟨h.val * 64 + d.val, by omega⟩) : EReal) := by
  pointwise [k0_pay2]

/-- One head of the device's contribution is attention. -/
theorem headOut_at (q : FVec Ideal S128x64 .bf16) (k v : FVec Ideal S1x128x1x64 .bf16) (i : Fin 128) (d : Fin 64) :
    headOut q k v (ix2 i d) = attend (fun e => q (ix2 i e)) (fun j e => k (ix4 0 j 0 e)) (fun j => v (ix4 0 j 0 d)) := by
  pointwise [headOut, weight, expo, score]
  rfl

/-- Column t of a batch is component t mod 64 of head t / 64. -/
theorem batchOut_at (Q k v : FVec Ideal S2x128x4x64 .bf16) (b : Fin 2) (s : Fin 128) (t : Fin 256) :
    batchOut Q k v b (ix2 s t) = headOut (headQ Q b ⟨t.val / 64, by omega⟩) (headK k b ⟨t.val / 64, by omega⟩) (headV v b ⟨t.val / 64, by omega⟩) (ix2 s ⟨t.val % 64, by omega⟩) := by
  have key : ∀ (h : Fin 4) (d : Fin 64), t.val / 64 = h.val → t.val % 64 = d.val →
      headOut (headQ Q b h) (headK k b h) (headV v b h) (ix2 s d)
        = headOut (headQ Q b ⟨t.val / 64, by omega⟩) (headK k b ⟨t.val / 64, by omega⟩) (headV v b ⟨t.val / 64, by omega⟩) (ix2 s ⟨t.val % 64, by omega⟩) := by
    intro h d hh hd
    have e1 : (⟨t.val / 64, by omega⟩ : Fin 4) = h := Fin.ext hh
    have e2 : (⟨t.val % 64, by omega⟩ : Fin 64) = d := Fin.ext hd
    rw [e1, e2]
  pointwise [batchOut]
  by_cases h0 : t.val < 64
  · rw [dif_pos h0]
    exact key 0 ⟨t.val, by omega⟩ (show t.val / 64 = 0 by omega) (show t.val % 64 = t.val by omega)
  rw [dif_neg h0]
  by_cases h1 : t.val - 64 < 64
  · rw [dif_pos h1]
    exact key 1 ⟨t.val - 64, by omega⟩ (show t.val / 64 = 1 by omega) (show t.val % 64 = t.val - 64 by omega)
  rw [dif_neg h1]
  by_cases h2 : t.val - 64 - 64 < 64
  · rw [dif_pos h2]
    exact key 2 ⟨t.val - 64 - 64, by omega⟩ (show t.val / 64 = 2 by omega) (show t.val % 64 = t.val - 64 - 64 by omega)
  rw [dif_neg h2]
  exact key 3 ⟨t.val - 64 - 64 - 64, by omega⟩ (show t.val / 64 = 3 by omega) (show t.val % 64 = t.val - 64 - 64 - 64 by omega)

/-- An element of the device's contribution: its 256 attention components against its rows of the output projection. -/
theorem part_at (x : FVec Ideal S256x512 .bf16) (wq : FVec Ideal S512x256 .bf16) (k v : FVec Ideal S2x128x4x64 .bf16) (wo : FVec Ideal S256x512 .bf16)
    (b : Fin 2) (s : Fin 128) (n : Fin 512) :
    part x wq k v wo (ix2 ⟨b.val * 128 + s.val, by omega⟩ n)
      = ∑ t : Fin 256, attend (fun e => ∑ c : Fin 512, (x (ix2 ⟨b.val * 128 + s.val, by omega⟩ c) : EReal) * (wq (ix2 c ⟨t.val / 64 * 64 + e.val, by omega⟩) : EReal))
          (fun j e => k (ix4 b j ⟨t.val / 64, by omega⟩ e)) (fun j => v (ix4 b j ⟨t.val / 64, by omega⟩ ⟨t.val % 64, by omega⟩)) * (wo (ix2 t n) : EReal) := by
  rw [part_eq]
  have hrow : ∀ t : Fin 256, batchOut (k0_pay2 x wq) k v b (ix2 s t)
      = attend (fun e => ∑ c : Fin 512, (x (ix2 ⟨b.val * 128 + s.val, by omega⟩ c) : EReal) * (wq (ix2 c ⟨t.val / 64 * 64 + e.val, by omega⟩) : EReal))
          (fun j e => k (ix4 b j ⟨t.val / 64, by omega⟩ e)) (fun j => v (ix4 b j ⟨t.val / 64, by omega⟩ ⟨t.val % 64, by omega⟩)) := by
    intro t
    rw [batchOut_at, headOut_at]
    congr 1
    · funext e
      rw [headQ_at]
      exact queries_at x wq b s _ e
    · funext j e
      exact headK_at k b _ j e
    · funext j
      exact headV_at v b _ j _
  pointwise []
  refine Finset.sum_congr rfl fun t _ => ?_
  rw [← hrow t]
  congr 1
  have hb : b.val = 0 ∨ b.val = 1 := by omega
  rcases hb with hb | hb
  · have eb : b = 0 := Fin.ext hb
    subst eb
    rw [dif_pos (by show 0 * 128 + s.val < 128; omega)]
    congr 2
    exact Fin.ext (by show 0 * 128 + s.val = s.val; omega)
  · have eb : b = 1 := Fin.ext hb
    subst eb
    rw [dif_neg (by show ¬ 1 * 128 + s.val < 128; omega)]
    congr 2
    exact Fin.ext (by show 1 * 128 + s.val - 128 = s.val; omega)

end Cert.KernelIdeal.Butterfly

end
-- ==== Proof.Sums.lean ====
/-
  What the exchange adds up, over the reals: after three rounds a device's running sum is the sum over all eight devices.
-/
module

public import proofs.«01_k».proof.Proof.Heads

@[expose] public section

noncomputable section

namespace Cert.KernelIdeal.Butterfly

open Idealize.ShloMosaic Idealize.ShloMosaic.TcCoe
open Cert.KernelIdeal Cert.KernelIdeal.Gen

set_option maxRecDepth 16384

variable (P : Dev nD → FVec Ideal S256x512 .f32)

/-- A device starts from its own contribution's rows of the chunk. -/
theorem acc_zero_at (c : Dev nD) (j : Fin 4) (i : Fin 64) (n : Fin 512) :
    acc P 0 c j (ix2 i n) = P c (ix2 ⟨64 * j.val + i.val, by omega⟩ n) := by
  pointwise [acc, chunk]

/-- A round adds the partner's running sum; the rounding it was sent with is the identity over the reals. -/
theorem acc_succ_at (r : ℕ) (c : Dev nD) (j : Fin 4) (i : Fin 64) (n : Fin 512) :
    acc P (r + 1) c j (ix2 i n) = (acc P r c j (ix2 i n) + acc P r (pr c r j) j (ix2 i n) : EReal) := by
  pointwise [acc_succ, landed, plus, sent, rnd]

/-- What is summed over the devices, as a function of their numbers. -/
theorem by_number (f : Dev nD → EReal) : ∃ g : ℕ → EReal, f = fun d => g d.val :=
  ⟨fun k => if h : k < 8 then f ⟨k, h⟩ else 0, by
    funext d
    show f d = if h : d.val < 8 then f ⟨d.val, h⟩ else 0
    rw [dif_pos (show d.val < 8 from d.isLt)]⟩

/-- Folding with the masks 1, 3 and 4 in turn reaches every device once. -/
theorem fold_first (f : Dev nD → EReal) (c : Dev nD) :
    ((f c + f (px 0 c)) + (f (px 1 c) + f (px 0 (px 1 c)))) + ((f (px 2 c) + f (px 0 (px 2 c))) + (f (px 1 (px 2 c)) + f (px 0 (px 1 (px 2 c)))))
      = ∑ d, f d := by
  obtain ⟨g, rfl⟩ := by_number f
  rw [Fin.sum_univ_eight]
  fin_cases c <;> simp [px] <;> ac_rfl

/-- So does folding with the masks 4, 1 and 3. -/
theorem fold_second (f : Dev nD → EReal) (c : Dev nD) :
    ((f c + f (px 2 c)) + (f (px 0 c) + f (px 2 (px 0 c)))) + ((f (px 1 c) + f (px 2 (px 1 c))) + (f (px 0 (px 1 c)) + f (px 2 (px 0 (px 1 c)))))
      = ∑ d, f d := by
  obtain ⟨g, rfl⟩ := by_number f
  rw [Fin.sum_univ_eight]
  fin_cases c <;> simp [px] <;> ac_rfl

/-- After three rounds the running sum is the sum of all eight contributions. -/
theorem acc_three_at (c : Dev nD) (j : Fin 4) (i : Fin 64) (n : Fin 512) :
    acc P 3 c j (ix2 i n) = ∑ d : Dev nD, (P d (ix2 ⟨64 * j.val + i.val, by omega⟩ n) : EReal) := by
  simp only [acc_succ_at, acc_zero_at]
  by_cases hj : j.val < 2
  · simp only [pr, mk, hj, if_true]
    exact fold_first (fun d => P d (ix2 ⟨64 * j.val + i.val, by omega⟩ n)) c
  · simp only [pr, mk, hj, if_false]
    exact fold_second (fun d => P d (ix2 ⟨64 * j.val + i.val, by omega⟩ n)) c

/-- Every element of the result is the sum of the eight contributions' elements there. -/
theorem total_at (c : Dev nD) (i : Fin 256) (n : Fin 512) : total P c (ix2 i n) = ∑ d : Dev nD, (P d (ix2 i n) : EReal) := by
  refine (acc_three_at P c _ _ _).trans ?_
  have e : (⟨64 * (i.val / 64) + i.val % 64, by omega⟩ : Fin 256) = i := Fin.ext (by show 64 * (i.val / 64) + i.val % 64 = i.val; omega)
  refine Finset.sum_congr rfl fun d _ => ?_
  exact congrArg (fun k => (P d (ix2 k n) : EReal)) e

end Cert.KernelIdeal.Butterfly

end
-- ==== Proof.Inputs.lean ====
/-
  What the host code hands the kernel on each device: the device's four heads of the keys and values, and the rows of the input.
-/
module

public import proofs.«01_k».proof.Proof.Run
public import Idealize.ShloMosaic.Lib.StableHlo.ReadAt
public import Idealize.ShloMosaic.Lib.Pointwise

@[expose] public section

noncomputable section

namespace Cert.KernelIdeal.Butterfly

open Idealize.ShloMosaic Idealize.ShloMosaic.TcCoe
open Cert.KernelIdeal Cert.KernelIdeal.Gen

set_option maxRecDepth 16384

variable (m : (ℓ : Loc nD τ sig) → Buf (Elt Ideal) ℓ)

/-- The device is handed the input with its two batches one below the other. -/
theorem rows_at (c : Dev nD) (b : Fin 2) (s : Fin 128) (e : Fin 512) :
    (V1 m c main_v14 : FVec Ideal S256x512 .bf16) (ix2 ⟨b.val * 128 + s.val, by omega⟩ e) = (m ((c.tc : Thread nD τ).loc main_arg0) : FVec Ideal S2x128x512 .bf16) (ix3 b s e) := by
  unfold V1
  after_reads_at

/-- The first of the device's heads, as the host code computes it: four times the device's number. -/
def firstHead (c : Dev nD) : IVec S_ 32 :=
  select (cmpi .slt (muli (Host.remui (Host.divui (constantI S_ 32 (Dev.word c)) (constantI S_ 32 1#32)) (constantI S_ 32 8#32)) (constantI S_ 32 4#32)) (constantI S_ 32 0#32))
    (addi (muli (Host.remui (Host.divui (constantI S_ 32 (Dev.word c)) (constantI S_ 32 1#32)) (constantI S_ 32 8#32)) (constantI S_ 32 4#32)) (constantI S_ 32 32#32))
    (muli (Host.remui (Host.divui (constantI S_ 32 (Dev.word c)) (constantI S_ 32 1#32)) (constantI S_ 32 8#32)) (constantI S_ 32 4#32))

/-- Where the device's heads begin in the whole keys and values. -/
def corner (c : Dev nD) (k : Fin 4) : ℤ := ((![constantI S_ 32 0#32, constantI S_ 32 0#32, firstHead c, constantI S_ 32 0#32] : Fin 4 → IVec S_ 32) k (Shape.Idx.first h_S_)).toInt

/-- The device is handed its four heads of the keys. -/
theorem keys_eq (c : Dev nD) : V1 m c main_v9 = Host.dynamicSlice S2x128x4x64 (m ((c.tc : Thread nD τ).loc main_arg2)) (corner c) sliceFits_S2x128x32x64_S2x128x4x64 := by
  unfold V1
  after_results_simp
  refine congrArg (fun g => Host.dynamicSlice S2x128x4x64 (m ((c.tc : Thread nD τ).loc main_arg2)) g sliceFits_S2x128x32x64_S2x128x4x64) ?_
  funext k
  fin_cases k
  · rfl
  · rfl
  · rfl
  · rfl

/-- The device is handed its four heads of the values. -/
theorem values_eq (c : Dev nD) : V1 m c main_v13 = Host.dynamicSlice S2x128x4x64 (m ((c.tc : Thread nD τ).loc main_arg3)) (corner c) sliceFits_S2x128x32x64_S2x128x4x64 := by
  unfold V1
  after_results_simp
  refine congrArg (fun g => Host.dynamicSlice S2x128x4x64 (m ((c.tc : Thread nD τ).loc main_arg3)) g sliceFits_S2x128x32x64_S2x128x4x64) ?_
  funext k
  fin_cases k
  · rfl
  · rfl
  · rfl
  · rfl

/-- The device's heads begin at four times its number. -/
theorem corner_eq : ∀ c : Dev nD, corner c 0 = 0 ∧ corner c 1 = 0 ∧ corner c 2 = c.val * 4 ∧ corner c 3 = 0 := by
  decide +kernel

/-- A device's four heads, element by element. -/
theorem slice_at (c : Dev nD) (x : FVec Ideal S2x128x32x64 .bf16) (b : Fin 2) (j : Fin 128) (h : Fin 4) (e : Fin 64) :
   Host.dynamicSlice S2x128x4x64 x (corner c) sliceFits_S2x128x32x64_S2x128x4x64 (ix4 b j h e) = x (ix4 b j ⟨c.val * 4 + h.val, by have : c.val < 8 := c.isLt; omega⟩ e) := by
  pointwise []
  simp only [Host.clampedStart, corner_eq]
  congr 1
  have hc : c.val < 8 := c.isLt
  funext a
  apply Fin.ext
  fin_cases a
  · show (min (max (0 : ℤ) 0) ((2 - 2 : ℕ) : ℤ)).toNat + b.val = b.val
    omega
  · show (min (max (0 : ℤ) 0) ((128 - 128 : ℕ) : ℤ)).toNat + j.val = j.val
    omega
  · show (min (max ((c.val : ℤ) * 4) 0) ((32 - 4 : ℕ) : ℤ)).toNat + h.val = c.val * 4 + h.val
    omega
  · show (min (max (0 : ℤ) 0) ((64 - 64 : ℕ) : ℤ)).toNat + e.val = e.val
    omega

/-- The result is what the exchange leaves, cut into its two batches. -/
theorem shaped_at (c : Dev nD) (b : Fin 2) (s : Fin 128) (n : Fin 512) :
    (V3 m (outs m) c main_v16 : FVec Ideal S2x128x512 .f32) (ix3 b s n) = total (addend m) c (ix2 ⟨b.val * 128 + s.val, by omega⟩ n) := by
  unfold V3
  after_reads_at
  exact congrFun (result_eq m c) _

end Cert.KernelIdeal.Butterfly

end
-- ==== Proof.Whole.lean ====
/-
  The reference over the reals, element by element.
-/
module

public import proofs.«01_k».proof.Proof.Gen.ReferenceIdeal.Run
public import proofs.«01_k».proof.Proof.Attend

@[expose] public section

noncomputable section

namespace Cert.ReferenceIdeal.Whole

open Idealize.ShloMosaic Idealize.ShloMosaic.TcCoe
open Cert.ReferenceIdeal Cert.ReferenceIdeal.Gen Cert.ReferenceIdeal.Value

section Vectors

variable {F : FTy → Type} [FloatOps F]

/-- The positions of the queries, as a column. -/
def rowIx : IVec S128x1 32 := broadcastInDim S128x1 ![0] bcast_S128_S128x1_0 (iotaInDim S128 32 0)
/-- The positions of the keys, as a row. -/
def colIx : IVec S1x128 32 := broadcastInDim S1x128 ![1] bcast_S128_S1x128_1 (iotaInDim S128 32 0)

/-- The mask: near the diagonal, or among the first positions. -/
def mask : IVec S128x128 1 :=
  ori (cmpi .sle (absi (subi (broadcastInDim S128x128 ![0, 1] bcast_S128x1_S128x128_0_1 rowIx) (broadcastInDim S128x128 ![0, 1] bcast_S1x128_S128x128_0_1 colIx)))
      (broadcastInDim S128x128 ![] bcast_S_S128x128 (constantI S_ 32 128#32)))
    (ori (broadcastInDim S128x128 ![0, 1] bcast_S1x128_S128x128_0_1 (cmpi .slt colIx (broadcastInDim S1x128 ![] bcast_S_S1x128 (constantI S_ 32 32#32))))
      (broadcastInDim S128x128 ![0, 1] bcast_S128x1_S128x128_0_1 (cmpi .slt rowIx (broadcastInDim S128x1 ![] bcast_S_S128x1 (constantI S_ 32 32#32)))))

/-- Which queries see a key at all. -/
def sees : IVec S128 1 := Host.reduce IntOp.ori mask (constantI S_ 1 0#1) reducesTo_S128x128_S128_d1 h_S_

/-- The projected queries, head by head. -/
def queries (x : FVec F S2x128x512 .bf16) (wq : FVec F S512x2048 .bf16) : FVec F S2x128x32x64 .bf16 :=
  shapeCast S2x128x32x64 (truncf .bf16 (Host.dotGeneral dot_S2x128x512_S512x2048_S2x128x2048_2_0_01_1_n_n none x wq) bitsLt_bf16_f32) shapeCasts_S2x128x2048_S2x128x32x64

/-- The scaled and masked scores. -/
def scores (q k : FVec F S2x128x32x64 .bf16) : FVec F S2x32x128x128 .f32 :=
  select (broadcastInDim S2x32x128x128 ![0, 1, 2, 3] bcast_S1x1x128x128_S2x32x128x128_0_1_2_3 (broadcastInDim S1x1x128x128 ![2, 3] bcast_S128x128_S1x1x128x128_2_3 mask))
    (mulf (extf .f32 (truncf .bf16 (Host.dotGeneral dot_S2x128x32x64_S2x128x32x64_S2x32x128x128_3_3_1_1_02_02 none q k) bitsLt_bf16_f32) bitsLt_bf16_f32)
      (broadcastInDim S2x32x128x128 ![] bcast_S_S2x32x128x128 (constant S_ .f32 0x3E000000#32)))
    (broadcastInDim S2x32x128x128 ![] bcast_S_S2x32x128x128 (id (constant S_ .f32 0xCE6E6B28#32)))

/-- The exponentials of the scores, each row less its maximum. -/
def expos (s : FVec F S2x32x128x128 .f32) : FVec F S2x32x128x128 .f32 :=
  Host.exp (subf s (broadcastInDim S2x32x128x128 ![0, 1, 2, 3] bcast_S2x32x128x1_S2x32x128x128_0_1_2_3 (broadcastInDim S2x32x128x1 ![0, 1, 2] bcast_S2x32x128_S2x32x128x1_0_1_2
    (Host.reduce FloatOps.maximumf s (constant S_ .f32 0xFF800000#32) reducesTo_S2x32x128x128_S2x32x128_d3 h_S_))))

/-- The attention weights: each row of exponentials over its sum, and zero where a query sees nothing. -/
def weights (e : FVec F S2x32x128x128 .f32) : FVec F S2x32x128x128 .f32 :=
  select (broadcastInDim S2x32x128x128 ![0, 1, 2, 3] bcast_S1x1x128x1_S2x32x128x128_0_1_2_3 (broadcastInDim S1x1x128x1 ![2] bcast_S128_S1x1x128x1_2 sees))
    (Host.divf e (broadcastInDim S2x32x128x128 ![0, 1, 2, 3] bcast_S2x32x128x1_S2x32x128x128_0_1_2_3
      (select (broadcastInDim S2x32x128x1 ![0, 1, 2, 3] bcast_S1x1x128x1_S2x32x128x1_0_1_2_3 (broadcastInDim S1x1x128x1 ![2] bcast_S128_S1x1x128x1_2 sees))
        (broadcastInDim S2x32x128x1 ![0, 1, 2] bcast_S2x32x128_S2x32x128x1_0_1_2 (Host.reduceAdd e (constant S_ .f32 0x00000000#32) reducesTo_S2x32x128x128_S2x32x128_d3 h_S_))
        (broadcastInDim S2x32x128x1 ![] bcast_S_S2x32x128x1 (id (constant S_ .f32 0x3F800000#32))))))
    (broadcastInDim S2x32x128x128 ![] bcast_S_S2x32x128x128 (id (constant S_ .f32 0x00000000#32)))

/-- The heads' results side by side. -/
def heads (w : FVec F S2x32x128x128 .f32) (v : FVec F S2x128x32x64 .bf16) : FVec F S2x128x2048 .f32 :=
  shapeCast S2x128x2048 (transpose S2x128x32x64 [0, 3, 1, 2] (Host.dotGeneral dot_S2x128x32x64_S2x32x128x128_S2x32x64x128_1_3_3_2_02_01 none v w)
    transposes_S2x32x64x128_S2x128x32x64_0_3_1_2) shapeCasts_S2x128x32x64_S2x128x2048

/-- The whole result. -/
def result (x : FVec F S2x128x512 .bf16) (wq : FVec F S512x2048 .bf16) (k v : FVec F S2x128x32x64 .bf16) (wo : FVec F S2048x512 .bf16) : FVec F S2x128x512 .f32 :=
  Host.dotGeneral dot_S2x128x2048_S2048x512_S2x128x512_2_0_01_1_n_n none (heads (weights (expos (scores (queries x wq) k))) v) wo

set_option maxRecDepth 8192 in
/-- The reference's result is this composition of its arguments. -/
theorem res_eq (m : (ℓ : Loc nD τ sig) → Buf (Elt F) ℓ) (c : Dev nD) :
    res_main_v45 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold res_main_v45; rfl

end Vectors

/-! ## Element by element -/

set_option maxRecDepth 16384

open Cert.Attention

/-- Any two positions are at most 128 apart. -/
theorem near_all : ∀ i j : Fin 128, IntOp.cmpi .sle (IntOp.absi (IntOp.subi (BitVec.ofNat 32 i.val) (BitVec.ofNat 32 j.val))) 128#32 = 1#1 := by
  decide +kernel

/-- Every query is within 128 positions of every key, so the mask holds everywhere. -/
theorem mask_at (i j : Fin 128) : mask (ix2 i j) = 1#1 := by
  pointwise [mask, rowIx, colIx]
  rw [near_all]
  exact (by decide : ∀ w : BitVec 1, IntOp.ori 1#1 w = 1#1) _

/-- So every query sees some key. -/
theorem sees_at (i : Fin 128) : sees (ix1 i) = 1#1 := by
  pointwise [sees, mask_at]
  decide +kernel

/-- A query of the whole arrays, element by element. -/
theorem queries_at (x : FVec Ideal S2x128x512 .bf16) (wq : FVec Ideal S512x2048 .bf16) (b : Fin 2) (s : Fin 128) (h : Fin 32) (d : Fin 64) :
    queries x wq (ix4 b s h d) = ∑ c : Fin 512, (x (ix3 b s c) : EReal) * (wq (ix2 c ⟨h.val * 64 + d.val, by omega⟩) : EReal) := by
  pointwise [queries]

/-- The scaled score of two positions. -/
theorem scores_at (q k : FVec Ideal S2x128x32x64 .bf16) (b : Fin 2) (h : Fin 32) (i j : Fin 128) :
    scores q k (ix4 b h i j) = scaled (fun e => q (ix4 b i h e)) (fun j e => k (ix4 b j h e)) j := by
  pointwise [scores, mask_at]
  rfl

/-- The exponential of a score, less the largest of its row. -/
theorem expos_at (q k : FVec Ideal S2x128x32x64 .bf16) (b : Fin 2) (h : Fin 32) (i j : Fin 128) :
    expos (scores q k) (ix4 b h i j) = grown (fun e => q (ix4 b i h e)) (fun j e => k (ix4 b j h e)) j := by
  pointwise [expos, scores_at]
  rfl

/-- A weight: an exponential over the sum of its row. -/
theorem weights_at (e : FVec Ideal S2x32x128x128 .f32) (b : Fin 2) (h : Fin 32) (i j : Fin 128) :
    weights e (ix4 b h i j) = Ideal.div (e (ix4 b h i j)) (∑ y : Fin 128, (e (ix4 b h i y) : EReal)) := by
  pointwise [weights, sees_at]

/-- A component of a query's attention, at its place among the joined heads. -/
theorem heads_at (q k v : FVec Ideal S2x128x32x64 .bf16) (b : Fin 2) (s : Fin 128) (u : Fin 2048) :
    heads (weights (expos (scores q k))) v (ix3 b s u)
      = attend (fun e => q (ix4 b s ⟨u.val / 64, by omega⟩ e)) (fun j e => k (ix4 b j ⟨u.val / 64, by omega⟩ e)) (fun j => v (ix4 b j ⟨u.val / 64, by omega⟩ ⟨u.val % 64, by omega⟩)) := by
  pointwise [heads]
  refine Finset.sum_congr rfl fun j _ => ?_
  rw [mul_comm, weights_at]
  simp only [expos_at]

/-- An element of the reference's result is the sum of its 2048 summands. -/
theorem result_at (x : FVec Ideal S2x128x512 .bf16) (wq : FVec Ideal S512x2048 .bf16) (k v : FVec Ideal S2x128x32x64 .bf16) (wo : FVec Ideal S2048x512 .bf16)
    (b : Fin 2) (s : Fin 128) (n : Fin 512) : result x wq k v wo (ix3 b s n) = ∑ u, summand x wq k v wo b s n u := by
  pointwise [result]
  refine Finset.sum_congr rfl fun u _ => ?_
  rw [heads_at]
  simp only [queries_at]
  rfl

end Cert.ReferenceIdeal.Whole

end
-- ==== Proof.Agree.lean ====
/-
  The kernel's result and the reference's are the same array over the reals.
-/
module

public import proofs.«01_k».proof.Proof.Sums
public import proofs.«01_k».proof.Proof.Inputs
public import proofs.«01_k».proof.Proof.Whole
public import Idealize.ShloMosaic.Lib.LayoutAt

@[expose] public section

noncomputable section

namespace Cert.KernelIdeal.Butterfly

open Idealize.ShloMosaic Idealize.ShloMosaic.TcCoe
open Cert.KernelIdeal Cert.KernelIdeal.Gen Cert.Attention

set_option maxRecDepth 16384

/-- A sum over the 2048 components, device by device. -/
theorem sum_by_device (f : Fin 2048 → EReal) : ∑ u, f u = ∑ d : Fin 8, ∑ t : Fin 256, f ⟨d.val * 256 + t.val, by omega⟩ := by
  refine (Equiv.sum_comp (finProdFinEquiv : Fin 8 × Fin 256 ≃ Fin (8 * 256)) f).symm.trans ?_
  rw [Fintype.sum_prod_type]
  refine Finset.sum_congr rfl fun d _ => Finset.sum_congr rfl fun t _ => congrArg f (Fin.ext ?_)
  show t.val + 256 * d.val = d.val * 256 + t.val
  omega

/-- A device's columns of the query projection. -/
theorem columns_at (W : FVec Ideal ⟨2, ![512, 2048]⟩ .bf16) (d : Fin 8) (r : Fin 512) (q : Fin 256) :
    (Layout.block ⟨2, ![512, 256]⟩ ⟨2, ![512, 2048]⟩ 1 8 d W : FVec Ideal ⟨2, ![512, 256]⟩ .bf16) (ix2 r q) = W (ix2 r ⟨d.val * 256 + q.val, by omega⟩) := by
  shard_ext

/-- A device's rows of the output projection. -/
theorem block_rows_at (W : FVec Ideal ⟨2, ![2048, 512]⟩ .bf16) (d : Fin 8) (r : Fin 256) (q : Fin 512) :
    (Layout.block ⟨2, ![256, 512]⟩ ⟨2, ![2048, 512]⟩ 0 8 d W : FVec Ideal ⟨2, ![256, 512]⟩ .bf16) (ix2 r q) = W (ix2 ⟨d.val * 256 + r.val, by omega⟩ q) := by
  shard_ext

variable (X : FVec Ideal ⟨3, ![2, 128, 512]⟩ .bf16) (Wq : FVec Ideal ⟨2, ![512, 2048]⟩ .bf16) (K V : FVec Ideal ⟨4, ![2, 128, 32, 64]⟩ .bf16)
    (Wo : FVec Ideal ⟨2, ![2048, 512]⟩ .bf16)

/-- A contribution computed from a device's parts of the arrays is its summands of the whole: component t of device d is component
    256 d + t. -/
theorem part_of_parts (d : Fin 8) (x : FVec Ideal S256x512 .bf16) (wq : FVec Ideal S512x256 .bf16) (k v : FVec Ideal S2x128x4x64 .bf16)
    (wo : FVec Ideal S256x512 .bf16) (b : Fin 2) (s : Fin 128) (n : Fin 512)
    (hx : ∀ r : Fin 512, x (ix2 ⟨b.val * 128 + s.val, by omega⟩ r) = X (ix3 b s r))
    (hq : ∀ (r : Fin 512) (q : Fin 256), wq (ix2 r q) = Wq (ix2 r ⟨d.val * 256 + q.val, by omega⟩))
    (hk : ∀ (j : Fin 128) (h : Fin 4) (e : Fin 64), k (ix4 b j h e) = K (ix4 b j ⟨d.val * 4 + h.val, by omega⟩ e))
    (hv : ∀ (j : Fin 128) (h : Fin 4) (e : Fin 64), v (ix4 b j h e) = V (ix4 b j ⟨d.val * 4 + h.val, by omega⟩ e))
    (ho : ∀ q : Fin 256, wo (ix2 q n) = Wo (ix2 ⟨d.val * 256 + q.val, by omega⟩ n)) :
    part x wq k v wo (ix2 ⟨b.val * 128 + s.val, by omega⟩ n)
      = ∑ t : Fin 256, summand X Wq K V Wo b s n ⟨d.val * 256 + t.val, by omega⟩ := by
  refine (part_at x wq k v wo b s n).trans (Finset.sum_congr rfl fun t _ => ?_)
  have column : ∀ e : Fin 64, d.val * 256 + (t.val / 64 * 64 + e.val) = (d.val * 256 + t.val) / 64 * 64 + e.val := fun e => by omega
  have head : d.val * 4 + t.val / 64 = (d.val * 256 + t.val) / 64 := by omega
  have within : t.val % 64 = (d.val * 256 + t.val) % 64 := by omega
  simp only [hx, hq, hk, hv, ho, summand, column, head, within]

variable (m : (ℓ : Loc nD τ sig) → Buf (Elt Ideal) ℓ)
/-- A device's contribution is the sum of its 256 summands of the whole. -/
theorem addend_at (d : Dev nD) (h0 : m ((d.tc : Thread nD τ).loc main_arg0) = X)
    (h1 : m ((d.tc : Thread nD τ).loc main_arg1) = Layout.block ⟨2, ![512, 256]⟩ ⟨2, ![512, 2048]⟩ 1 8 d Wq)
    (h2 : m ((d.tc : Thread nD τ).loc main_arg2) = K) (h3 : m ((d.tc : Thread nD τ).loc main_arg3) = V)
    (h4 : m ((d.tc : Thread nD τ).loc main_arg4) = Layout.block ⟨2, ![256, 512]⟩ ⟨2, ![2048, 512]⟩ 0 8 d Wo)
    (b : Fin 2) (s : Fin 128) (n : Fin 512) :
    addend m d (ix2 ⟨b.val * 128 + s.val, by omega⟩ n)
      = ∑ t : Fin 256, summand X Wq K V Wo b s n ⟨d.val * 256 + t.val, by have : d.val < 8 := d.isLt; omega⟩ := by
  subst h0 h2 h3
  refine part_of_parts _ Wq _ _ Wo d _ _ _ _ _ b s n ?_ ?_ ?_ ?_ ?_
  · exact fun r => rows_at m d b s r
  · exact fun r q => (congrFun ((V1_of m d main_arg1 (by decide)).trans h1) (ix2 r q)).trans (columns_at Wq d r q)
  · exact fun j h e => (congrFun (keys_eq m d) _).trans (slice_at d _ b j h e)
  · exact fun j h e => (congrFun (values_eq m d) _).trans (slice_at d _ b j h e)
  · exact fun q => (congrFun ((V1_of m d main_arg4 (by decide)).trans h4) (ix2 q n)).trans (block_rows_at Wo d q n)

/-- The devices' contributions add up to the whole. -/
theorem addends_sum (P : Dev nD → FVec Ideal S256x512 .f32) (b : Fin 2) (s : Fin 128) (n : Fin 512)
    (hP : ∀ d : Fin 8, P d (ix2 ⟨b.val * 128 + s.val, by omega⟩ n) = ∑ t : Fin 256, summand X Wq K V Wo b s n ⟨d.val * 256 + t.val, by omega⟩)
    (c : Dev nD) : total P c (ix2 ⟨b.val * 128 + s.val, by omega⟩ n) = Cert.ReferenceIdeal.Whole.result X Wq K V Wo (ix3 b s n) := by
  rw [total_at, Cert.ReferenceIdeal.Whole.result_at, sum_by_device]
  exact Finset.sum_congr rfl fun d _ => hP d

/-- Every device's result is the reference's. -/
theorem agree (h0 : ∀ d : Dev nD, m ((d.tc : Thread nD τ).loc main_arg0) = X)
    (h1 : ∀ d : Dev nD, m ((d.tc : Thread nD τ).loc main_arg1) = Layout.block ⟨2, ![512, 256]⟩ ⟨2, ![512, 2048]⟩ 1 8 d Wq)
    (h2 : ∀ d : Dev nD, m ((d.tc : Thread nD τ).loc main_arg2) = K) (h3 : ∀ d : Dev nD, m ((d.tc : Thread nD τ).loc main_arg3) = V)
    (h4 : ∀ d : Dev nD, m ((d.tc : Thread nD τ).loc main_arg4) = Layout.block ⟨2, ![256, 512]⟩ ⟨2, ![2048, 512]⟩ 0 8 d Wo) (c : Dev nD)
    (i : S2x128x512.Idx) : V3 m (outs m) c main_v16 i = Cert.ReferenceIdeal.Whole.result X Wq K V Wo i := by
  obtain ⟨b, s, n, rfl⟩ : ∃ (b : Fin 2) (s : Fin 128) (n : Fin 512), i = ix3 b s n := ⟨i 0, i 1, i 2, eq_ix3 i⟩
  exact (shaped_at m c b s n).trans (addends_sum X Wq K V Wo (addend m) b s n
    (fun d => addend_at X Wq K V Wo m d (h0 d) (h1 d) (h2 d) (h3 d) (h4 d) b s n) c)

end Cert.KernelIdeal.Butterfly

end
-- ==== Proof.lean ====
/-
  The proof of `Cert.Claim`: the frames of the kernel, of the kernel over the reals and of the reference; that the two kernels are
  one text; and that over the reals every device's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.KernelRun
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel's frame: its run at the machine's own floats, with the result's value dropped. -/
theorem frame_kernel : Cert.quiescent_Kernel := fun m ρ _ =>
  (θ_run Cert.Kernel.defs _ _).mono (fun _ h => ⟨fun c => ⟨(h.1 c).1, (h.1 c).2.1, (h.1 c).2.2.1, (h.1 c).2.2.2.1, (h.1 c).2.2.2.2.1⟩, h.2⟩)
    (Cert.Kernel.Butterfly.run_main (F := Bits) m ρ)

/-- The idealized kernel's frame: the same run over the reals, with the result's value dropped. -/
theorem frame_kernelIdeal : Cert.quiescent_KernelIdeal := fun m ρ _ =>
  (θ_run Cert.KernelIdeal.defs _ _).mono (fun _ h => ⟨fun c => ⟨(h.1 c).1, (h.1 c).2.1, (h.1 c).2.2.1, (h.1 c).2.2.2.1, (h.1 c).2.2.2.2.1⟩, h.2⟩)
    (Cert.KernelIdeal.Butterfly.run_main (F := Ideal) m ρ)

/-- The reference's frame: its run, in a program that declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals the kernel's result, on every device, is the reference's. -/
theorem algebraic : Cert.algebraic_KernelIdeal_ReferenceIdeal := fun m ρ m' ρ' _ h =>
  ⟨Cert.ReferenceIdeal.Value.res_main_v45 m' 0,
    (θ_run Cert.KernelIdeal.defs _ _).mono
      (fun _ r c => ⟨(r.1 c).2.2.2.2.2.trans ((funext fun i => Cert.KernelIdeal.Butterfly.agree _ _ _ _ _ m (fun d => (h d).1) (fun d => (h d).2.1)
          (fun d => (h d).2.2.1) (fun d => (h d).2.2.2.1) (fun d => (h d).2.2.2.2) c i).trans (Cert.ReferenceIdeal.Whole.res_eq m' 0).symm),
        (r.1 c).1, (r.1 c).2.1, (r.1 c).2.2.1, (r.1 c).2.2.2.1, (r.1 c).2.2.2.2.1⟩)
      (Cert.KernelIdeal.Butterfly.run_main (F := Ideal) m ρ),
    (θ_run Cert.ReferenceIdeal.defs _ _).mono (fun _ r => r 0) (Cert.ReferenceIdeal.Value.run (F := Ideal) m' ρ')⟩

/-- Every claim of the certificate, after the programs' stated facts. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
